-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def Pre_Kernel2 (m : (ℓ : Loc Cert.Kernel2.nD Cert.Kernel2.τ Cert.Kernel2.sig) → Buf (Elt Bits) ℓ) : Prop :=
  True

def Pre_Kernel2Ideal (m : (ℓ : Loc Cert.Kernel2Ideal.nD Cert.Kernel2Ideal.τ Cert.Kernel2Ideal.sig) → Buf (Elt Ideal) ℓ) : Prop :=
  True

def Pre_Reference2Ideal (m : (ℓ : Loc Cert.Reference2Ideal.nD Cert.Reference2Ideal.τ Cert.Reference2Ideal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_Kernel2 [hKernel2 : Cert.Kernel2.Facts] : Prop :=
  ∀ (m : (ℓ : Loc Cert.Kernel2.nD Cert.Kernel2.τ Cert.Kernel2.sig) → Buf (Elt Bits) ℓ) (g : Dev Cert.Kernel2.nD → PrngReg), Pre_Kernel2 m →
    θ_run (Cert.Kernel2.defs (F := Bits)) (onTc (τ := Cert.Kernel2.τ) (Cert.Kernel2.main (F := Bits))) ⟨m, fun _ => 0, g⟩ (fun r => (∀ c : Dev Cert.Kernel2.nD,
      r.2.mem ((c.tc : Thread Cert.Kernel2.nD Cert.Kernel2.τ).loc Cert.Kernel2.main_arg0) = m ((c.tc : Thread Cert.Kernel2.nD Cert.Kernel2.τ).loc Cert.Kernel2.main_arg0)
      ∧ r.2.mem ((c.tc : Thread Cert.Kernel2.nD Cert.Kernel2.τ).loc Cert.Kernel2.main_arg1) = m ((c.tc : Thread Cert.Kernel2.nD Cert.Kernel2.τ).loc Cert.Kernel2.main_arg1)
      ∧ r.2.mem ((c.tc : Thread Cert.Kernel2.nD Cert.Kernel2.τ).loc Cert.Kernel2.main_arg2) = m ((c.tc : Thread Cert.Kernel2.nD Cert.Kernel2.τ).loc Cert.Kernel2.main_arg2)
      ∧ r.2.mem ((c.tc : Thread Cert.Kernel2.nD Cert.Kernel2.τ).loc Cert.Kernel2.main_arg3) = m ((c.tc : Thread Cert.Kernel2.nD Cert.Kernel2.τ).loc Cert.Kernel2.main_arg3)
      ∧ r.2.mem ((c.tc : Thread Cert.Kernel2.nD Cert.Kernel2.τ).loc Cert.Kernel2.main_arg4) = m ((c.tc : Thread Cert.Kernel2.nD Cert.Kernel2.τ).loc Cert.Kernel2.main_arg4)
      ∧ r.2.mem ((c.tc : Thread Cert.Kernel2.nD Cert.Kernel2.τ).loc Cert.Kernel2.main_arg5) = m ((c.tc : Thread Cert.Kernel2.nD Cert.Kernel2.τ).loc Cert.Kernel2.main_arg5)
      ∧ r.2.mem ((c.tc : Thread Cert.Kernel2.nD Cert.Kernel2.τ).loc Cert.Kernel2.main_arg6) = m ((c.tc : Thread Cert.Kernel2.nD Cert.Kernel2.τ).loc Cert.Kernel2.main_arg6)
      ∧ r.2.mem ((c.tc : Thread Cert.Kernel2.nD Cert.Kernel2.τ).loc Cert.Kernel2.main_arg7) = m ((c.tc : Thread Cert.Kernel2.nD Cert.Kernel2.τ).loc Cert.Kernel2.main_arg7)
      ∧ r.2.mem ((c.tc : Thread Cert.Kernel2.nD Cert.Kernel2.τ).loc Cert.Kernel2.main_arg8) = m ((c.tc : Thread Cert.Kernel2.nD Cert.Kernel2.τ).loc Cert.Kernel2.main_arg8))
      ∧ r.2.sem = fun _ => 0)

def quiescent_Kernel2Ideal [hKernel2Ideal : Cert.Kernel2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg), Pre_Kernel2Ideal m →
    θ_run (Cert.Kernel2Ideal.defs (F := Ideal)) (onTc (τ := Cert.Kernel2Ideal.τ) (Cert.Kernel2Ideal.main (F := Ideal))) ⟨m, fun _ => 0, g⟩ (fun r => (∀ c : Dev Cert.Kernel2Ideal.nD,
      r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
      ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
      ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
      ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
      ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
      ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
      ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
      ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
      ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8))
      ∧ r.2.sem = fun _ => 0)

def quiescent_Reference2Ideal [hReference2Ideal : Cert.Reference2Ideal.Facts] : Prop :=
  ∀ (m : (ℓ : Loc Cert.Reference2Ideal.nD Cert.Reference2Ideal.τ Cert.Reference2Ideal.sig) → Buf (Elt Ideal) ℓ) (g : Dev Cert.Reference2Ideal.nD → PrngReg), Pre_Reference2Ideal m →
    θ_run (Cert.Reference2Ideal.defs (F := Ideal)) (onTc (τ := Cert.Reference2Ideal.τ) (Cert.Reference2Ideal.main (F := Ideal))) ⟨m, fun _ => 0, g⟩ (fun r => (∀ c : Dev Cert.Reference2Ideal.nD,
      r.2.mem ((c.tc : Thread Cert.Reference2Ideal.nD Cert.Reference2Ideal.τ).loc Cert.Reference2Ideal.main_arg0) = m ((c.tc : Thread Cert.Reference2Ideal.nD Cert.Reference2Ideal.τ).loc Cert.Reference2Ideal.main_arg0)
      ∧ r.2.mem ((c.tc : Thread Cert.Reference2Ideal.nD Cert.Reference2Ideal.τ).loc Cert.Reference2Ideal.main_arg1) = m ((c.tc : Thread Cert.Reference2Ideal.nD Cert.Reference2Ideal.τ).loc Cert.Reference2Ideal.main_arg1)
      ∧ r.2.mem ((c.tc : Thread Cert.Reference2Ideal.nD Cert.Reference2Ideal.τ).loc Cert.Reference2Ideal.main_arg2) = m ((c.tc : Thread Cert.Reference2Ideal.nD Cert.Reference2Ideal.τ).loc Cert.Reference2Ideal.main_arg2)
      ∧ r.2.mem ((c.tc : Thread Cert.Reference2Ideal.nD Cert.Reference2Ideal.τ).loc Cert.Reference2Ideal.main_arg3) = m ((c.tc : Thread Cert.Reference2Ideal.nD Cert.Reference2Ideal.τ).loc Cert.Reference2Ideal.main_arg3)
      ∧ r.2.mem ((c.tc : Thread Cert.Reference2Ideal.nD Cert.Reference2Ideal.τ).loc Cert.Reference2Ideal.main_arg4) = m ((c.tc : Thread Cert.Reference2Ideal.nD Cert.Reference2Ideal.τ).loc Cert.Reference2Ideal.main_arg4)
      ∧ r.2.mem ((c.tc : Thread Cert.Reference2Ideal.nD Cert.Reference2Ideal.τ).loc Cert.Reference2Ideal.main_arg5) = m ((c.tc : Thread Cert.Reference2Ideal.nD Cert.Reference2Ideal.τ).loc Cert.Reference2Ideal.main_arg5)
      ∧ r.2.mem ((c.tc : Thread Cert.Reference2Ideal.nD Cert.Reference2Ideal.τ).loc Cert.Reference2Ideal.main_arg6) = m ((c.tc : Thread Cert.Reference2Ideal.nD Cert.Reference2Ideal.τ).loc Cert.Reference2Ideal.main_arg6)
      ∧ r.2.mem ((c.tc : Thread Cert.Reference2Ideal.nD Cert.Reference2Ideal.τ).loc Cert.Reference2Ideal.main_arg7) = m ((c.tc : Thread Cert.Reference2Ideal.nD Cert.Reference2Ideal.τ).loc Cert.Reference2Ideal.main_arg7)
      ∧ r.2.mem ((c.tc : Thread Cert.Reference2Ideal.nD Cert.Reference2Ideal.τ).loc Cert.Reference2Ideal.main_arg8) = m ((c.tc : Thread Cert.Reference2Ideal.nD Cert.Reference2Ideal.τ).loc Cert.Reference2Ideal.main_arg8))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_v35_0)) (v1 : (c : Dev Cert.KernelIdeal.nD) → Buf (Elt Ideal) ((c.tc : Thread Cert.KernelIdeal.nD Cert.KernelIdeal.τ).loc Cert.KernelIdeal.main_v35_1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v35_0) = v0 c
          ∧ r.2.mem ((c.tc : Thread Cert.KernelIdeal.nD Cert.KernelIdeal.τ).loc Cert.KernelIdeal.main_v35_1) = v1 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v70) = v0 c
          ∧ r.2.mem ((c.tc : Thread Cert.ReferenceIdeal.nD Cert.ReferenceIdeal.τ).loc Cert.ReferenceIdeal.main_v69) = v1 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def preserves_Kernel2_Kernel2Ideal : Prop :=
  True

def algebraic_Kernel2Ideal_Reference2Ideal [hKernel2Ideal : Cert.Kernel2Ideal.Facts] [hReference2Ideal : Cert.Reference2Ideal.Facts] : Prop :=
  ∀ (m : (ℓ : Loc Cert.Kernel2Ideal.nD Cert.Kernel2Ideal.τ Cert.Kernel2Ideal.sig) → Buf (Elt Ideal) ℓ) (g : Dev Cert.Kernel2Ideal.nD → PrngReg)
    (m' : (ℓ : Loc Cert.Reference2Ideal.nD Cert.Reference2Ideal.τ Cert.Reference2Ideal.sig) → Buf (Elt Ideal) ℓ) (g' : Dev Cert.Reference2Ideal.nD → PrngReg), Pre_Kernel2Ideal m →
    (∀ c : Dev Cert.Kernel2Ideal.nD,
      m' ((c.tc : Thread Cert.Reference2Ideal.nD Cert.Reference2Ideal.τ).loc Cert.Reference2Ideal.main_arg0) = m ((c.tc : Thread Cert.Kernel2Ideal.nD Cert.Kernel2Ideal.τ).loc Cert.Kernel2Ideal.main_arg0)
      ∧ m' ((c.tc : Thread Cert.Reference2Ideal.nD Cert.Reference2Ideal.τ).loc Cert.Reference2Ideal.main_arg1) = m ((c.tc : Thread Cert.Kernel2Ideal.nD Cert.Kernel2Ideal.τ).loc Cert.Kernel2Ideal.main_arg1)
      ∧ m' ((c.tc : Thread Cert.Reference2Ideal.nD Cert.Reference2Ideal.τ).loc Cert.Reference2Ideal.main_arg2) = m ((c.tc : Thread Cert.Kernel2Ideal.nD Cert.Kernel2Ideal.τ).loc Cert.Kernel2Ideal.main_arg2)
      ∧ m' ((c.tc : Thread Cert.Reference2Ideal.nD Cert.Reference2Ideal.τ).loc Cert.Reference2Ideal.main_arg3) = m ((c.tc : Thread Cert.Kernel2Ideal.nD Cert.Kernel2Ideal.τ).loc Cert.Kernel2Ideal.main_arg3)
      ∧ m' ((c.tc : Thread Cert.Reference2Ideal.nD Cert.Reference2Ideal.τ).loc Cert.Reference2Ideal.main_arg4) = m ((c.tc : Thread Cert.Kernel2Ideal.nD Cert.Kernel2Ideal.τ).loc Cert.Kernel2Ideal.main_arg4)
      ∧ m' ((c.tc : Thread Cert.Reference2Ideal.nD Cert.Reference2Ideal.τ).loc Cert.Reference2Ideal.main_arg5) = m ((c.tc : Thread Cert.Kernel2Ideal.nD Cert.Kernel2Ideal.τ).loc Cert.Kernel2Ideal.main_arg5)
      ∧ m' ((c.tc : Thread Cert.Reference2Ideal.nD Cert.Reference2Ideal.τ).loc Cert.Reference2Ideal.main_arg6) = m ((c.tc : Thread Cert.Kernel2Ideal.nD Cert.Kernel2Ideal.τ).loc Cert.Kernel2Ideal.main_arg6)
      ∧ m' ((c.tc : Thread Cert.Reference2Ideal.nD Cert.Reference2Ideal.τ).loc Cert.Reference2Ideal.main_arg7) = m ((c.tc : Thread Cert.Kernel2Ideal.nD Cert.Kernel2Ideal.τ).loc Cert.Kernel2Ideal.main_arg7)
      ∧ m' ((c.tc : Thread Cert.Reference2Ideal.nD Cert.Reference2Ideal.τ).loc Cert.Reference2Ideal.main_arg8) = m ((c.tc : Thread Cert.Kernel2Ideal.nD Cert.Kernel2Ideal.τ).loc Cert.Kernel2Ideal.main_arg8)) →
    ∃ (v0 : (c : Dev Cert.Kernel2Ideal.nD) → Buf (Elt Ideal) ((c.tc : Thread Cert.Kernel2Ideal.nD Cert.Kernel2Ideal.τ).loc Cert.Kernel2Ideal.main_v7)),
      θ_run (Cert.Kernel2Ideal.defs (F := Ideal)) (onTc (τ := Cert.Kernel2Ideal.τ) (Cert.Kernel2Ideal.main (F := Ideal))) ⟨m, fun _ => 0, g⟩ (fun r => ∀ c : Dev Cert.Kernel2Ideal.nD,
          r.2.mem ((c.tc : Thread Cert.Kernel2Ideal.nD Cert.Kernel2Ideal.τ).loc Cert.Kernel2Ideal.main_v7) = v0 c
          ∧ r.2.mem ((c.tc : Thread Cert.Kernel2Ideal.nD Cert.Kernel2Ideal.τ).loc Cert.Kernel2Ideal.main_arg0) = m ((c.tc : Thread Cert.Kernel2Ideal.nD Cert.Kernel2Ideal.τ).loc Cert.Kernel2Ideal.main_arg0)
          ∧ r.2.mem ((c.tc : Thread Cert.Kernel2Ideal.nD Cert.Kernel2Ideal.τ).loc Cert.Kernel2Ideal.main_arg1) = m ((c.tc : Thread Cert.Kernel2Ideal.nD Cert.Kernel2Ideal.τ).loc Cert.Kernel2Ideal.main_arg1)
          ∧ r.2.mem ((c.tc : Thread Cert.Kernel2Ideal.nD Cert.Kernel2Ideal.τ).loc Cert.Kernel2Ideal.main_arg2) = m ((c.tc : Thread Cert.Kernel2Ideal.nD Cert.Kernel2Ideal.τ).loc Cert.Kernel2Ideal.main_arg2)
          ∧ r.2.mem ((c.tc : Thread Cert.Kernel2Ideal.nD Cert.Kernel2Ideal.τ).loc Cert.Kernel2Ideal.main_arg3) = m ((c.tc : Thread Cert.Kernel2Ideal.nD Cert.Kernel2Ideal.τ).loc Cert.Kernel2Ideal.main_arg3)
          ∧ r.2.mem ((c.tc : Thread Cert.Kernel2Ideal.nD Cert.Kernel2Ideal.τ).loc Cert.Kernel2Ideal.main_arg4) = m ((c.tc : Thread Cert.Kernel2Ideal.nD Cert.Kernel2Ideal.τ).loc Cert.Kernel2Ideal.main_arg4)
          ∧ r.2.mem ((c.tc : Thread Cert.Kernel2Ideal.nD Cert.Kernel2Ideal.τ).loc Cert.Kernel2Ideal.main_arg5) = m ((c.tc : Thread Cert.Kernel2Ideal.nD Cert.Kernel2Ideal.τ).loc Cert.Kernel2Ideal.main_arg5)
          ∧ r.2.mem ((c.tc : Thread Cert.Kernel2Ideal.nD Cert.Kernel2Ideal.τ).loc Cert.Kernel2Ideal.main_arg6) = m ((c.tc : Thread Cert.Kernel2Ideal.nD Cert.Kernel2Ideal.τ).loc Cert.Kernel2Ideal.main_arg6)
          ∧ r.2.mem ((c.tc : Thread Cert.Kernel2Ideal.nD Cert.Kernel2Ideal.τ).loc Cert.Kernel2Ideal.main_arg7) = m ((c.tc : Thread Cert.Kernel2Ideal.nD Cert.Kernel2Ideal.τ).loc Cert.Kernel2Ideal.main_arg7)
          ∧ r.2.mem ((c.tc : Thread Cert.Kernel2Ideal.nD Cert.Kernel2Ideal.τ).loc Cert.Kernel2Ideal.main_arg8) = m ((c.tc : Thread Cert.Kernel2Ideal.nD Cert.Kernel2Ideal.τ).loc Cert.Kernel2Ideal.main_arg8))
      ∧ θ_run (Cert.Reference2Ideal.defs (F := Ideal)) (onTc (τ := Cert.Reference2Ideal.τ) (Cert.Reference2Ideal.main (F := Ideal))) ⟨m', fun _ => 0, g'⟩ (fun r => ∀ c : Dev Cert.Reference2Ideal.nD,
          r.2.mem ((c.tc : Thread Cert.Reference2Ideal.nD Cert.Reference2Ideal.τ).loc Cert.Reference2Ideal.main_v45) = v0 c
          ∧ r.2.mem ((c.tc : Thread Cert.Reference2Ideal.nD Cert.Reference2Ideal.τ).loc Cert.Reference2Ideal.main_arg0) = m' ((c.tc : Thread Cert.Reference2Ideal.nD Cert.Reference2Ideal.τ).loc Cert.Reference2Ideal.main_arg0)
          ∧ r.2.mem ((c.tc : Thread Cert.Reference2Ideal.nD Cert.Reference2Ideal.τ).loc Cert.Reference2Ideal.main_arg1) = m' ((c.tc : Thread Cert.Reference2Ideal.nD Cert.Reference2Ideal.τ).loc Cert.Reference2Ideal.main_arg1)
          ∧ r.2.mem ((c.tc : Thread Cert.Reference2Ideal.nD Cert.Reference2Ideal.τ).loc Cert.Reference2Ideal.main_arg2) = m' ((c.tc : Thread Cert.Reference2Ideal.nD Cert.Reference2Ideal.τ).loc Cert.Reference2Ideal.main_arg2)
          ∧ r.2.mem ((c.tc : Thread Cert.Reference2Ideal.nD Cert.Reference2Ideal.τ).loc Cert.Reference2Ideal.main_arg3) = m' ((c.tc : Thread Cert.Reference2Ideal.nD Cert.Reference2Ideal.τ).loc Cert.Reference2Ideal.main_arg3)
          ∧ r.2.mem ((c.tc : Thread Cert.Reference2Ideal.nD Cert.Reference2Ideal.τ).loc Cert.Reference2Ideal.main_arg4) = m' ((c.tc : Thread Cert.Reference2Ideal.nD Cert.Reference2Ideal.τ).loc Cert.Reference2Ideal.main_arg4)
          ∧ r.2.mem ((c.tc : Thread Cert.Reference2Ideal.nD Cert.Reference2Ideal.τ).loc Cert.Reference2Ideal.main_arg5) = m' ((c.tc : Thread Cert.Reference2Ideal.nD Cert.Reference2Ideal.τ).loc Cert.Reference2Ideal.main_arg5)
          ∧ r.2.mem ((c.tc : Thread Cert.Reference2Ideal.nD Cert.Reference2Ideal.τ).loc Cert.Reference2Ideal.main_arg6) = m' ((c.tc : Thread Cert.Reference2Ideal.nD Cert.Reference2Ideal.τ).loc Cert.Reference2Ideal.main_arg6)
          ∧ r.2.mem ((c.tc : Thread Cert.Reference2Ideal.nD Cert.Reference2Ideal.τ).loc Cert.Reference2Ideal.main_arg7) = m' ((c.tc : Thread Cert.Reference2Ideal.nD Cert.Reference2Ideal.τ).loc Cert.Reference2Ideal.main_arg7)
          ∧ r.2.mem ((c.tc : Thread Cert.Reference2Ideal.nD Cert.Reference2Ideal.τ).loc Cert.Reference2Ideal.main_arg8) = m' ((c.tc : Thread Cert.Reference2Ideal.nD Cert.Reference2Ideal.τ).loc Cert.Reference2Ideal.main_arg8))

def Claim : Prop :=
  ∃ (hKernel : Cert.Kernel.Facts) (hKernelIdeal : Cert.KernelIdeal.Facts) (hReferenceIdeal : Cert.ReferenceIdeal.Facts) (hKernel2 : Cert.Kernel2.Facts) (hKernel2Ideal : Cert.Kernel2Ideal.Facts) (hReference2Ideal : Cert.Reference2Ideal.Facts),
    quiescent_Kernel (hKernel := hKernel)
    ∧ quiescent_KernelIdeal (hKernelIdeal := hKernelIdeal)
    ∧ quiescent_ReferenceIdeal (hReferenceIdeal := hReferenceIdeal)
    ∧ quiescent_Kernel2 (hKernel2 := hKernel2)
    ∧ quiescent_Kernel2Ideal (hKernel2Ideal := hKernel2Ideal)
    ∧ quiescent_Reference2Ideal (hReference2Ideal := hReference2Ideal)
    ∧ preserves_Kernel_KernelIdeal
    ∧ algebraic_KernelIdeal_ReferenceIdeal (hKernelIdeal := hKernelIdeal) (hReferenceIdeal := hReferenceIdeal)
    ∧ preserves_Kernel2_Kernel2Ideal
    ∧ algebraic_Kernel2Ideal_Reference2Ideal (hKernel2Ideal := hKernel2Ideal) (hReference2Ideal := hReference2Ideal)
-- ==== Kernel.lean ====
abbrev S2x4096x2048 : Shape := ⟨3, ![2, 4096, 2048]⟩
abbrev S1x2048x13376 : Shape := ⟨3, ![1, 2048, 13376]⟩
abbrev S1x2x8 : Shape := ⟨3, ![1, 2, 8]⟩
abbrev S1x2048 : Shape := ⟨2, ![1, 2048]⟩
abbrev S8192x2048 : Shape := ⟨2, ![8192, 2048]⟩
abbrev S2048x13376 : Shape := ⟨2, ![2048, 13376]⟩
abbrev S13376x2048 : Shape := ⟨2, ![13376, 2048]⟩
abbrev S16x2048 : Shape := ⟨2, ![16, 2048]⟩
abbrev S64x2048 : Shape := ⟨2, ![64, 2048]⟩
abbrev S4x2x8x2048 : Shape := ⟨4, ![4, 2, 8, 2048]⟩
abbrev S8x4x2x2048 : Shape := ⟨4, ![8, 4, 2, 2048]⟩
abbrev S_ : Shape := ⟨0, ![]⟩
abbrev S128x2048 : Shape := ⟨2, ![128, 2048]⟩
abbrev S16 : Shape := ⟨1, ![16]⟩
abbrev S2x8 : Shape := ⟨2, ![2, 8]⟩
abbrev S64 : Shape := ⟨1, ![64]⟩
abbrev S4x2x8 : Shape := ⟨3, ![4, 2, 8]⟩
abbrev S8x4x2 : Shape := ⟨3, ![8, 4, 2]⟩
abbrev S1x64 : Shape := ⟨2, ![1, 64]⟩
abbrev S2x64 : Shape := ⟨2, ![2, 64]⟩
abbrev S2x128 : Shape := ⟨2, ![2, 128]⟩
abbrev S2048 : Shape := ⟨1, ![2048]⟩
abbrev S8192x13312 : Shape := ⟨2, ![8192, 13312]⟩
abbrev S2x8x4096x8 : Shape := ⟨4, ![2, 8, 4096, 8]⟩
abbrev S1024x2048 : Shape := ⟨2, ![1024, 2048]⟩
abbrev S1024x1024 : Shape := ⟨2, ![1024, 1024]⟩
abbrev S1x8x1024x8 : Shape := ⟨4, ![1, 8, 1024, 8]⟩
abbrev S1024 : Shape := ⟨1, ![1024]⟩
abbrev S1024x1 : Shape := ⟨2, ![1024, 1]⟩
abbrev S1024x128 : Shape := ⟨2, ![1024, 128]⟩
abbrev S1x128 : Shape := ⟨2, ![1, 128]⟩
abbrev S1024x8 : Shape := ⟨2, ![1024, 8]⟩
abbrev S1x1x1024x8 : Shape := ⟨4, ![1, 1, 1024, 8]⟩

abbrev nBuf : Space → Nat
  | .hbm => 49
  | .vmem => 12
  | .smem => 0
  | _ => 0

abbrev bufTy : (tb : Table) → Fin (tcTables nBuf tb) → BufTy
  | .hbm, ⟨0, _⟩ => ⟨S2x4096x2048, .f32⟩
  | .hbm, ⟨1, _⟩ => ⟨S1x2048x13376, .f32⟩
  | .hbm, ⟨2, _⟩ => ⟨S1x2x8, .f32⟩
  | .hbm, ⟨3, _⟩ => ⟨S1x2x8, .f32⟩
  | .hbm, ⟨4, _⟩ => ⟨S1x2x8, .f32⟩
  | .hbm, ⟨5, _⟩ => ⟨S1x2x8, .f32⟩
  | .hbm, ⟨6, _⟩ => ⟨S1x2048, .f32⟩
  | .hbm, ⟨7, _⟩ => ⟨S8192x2048, .f32⟩
  | .hbm, ⟨8, _⟩ => ⟨S2048x13376, .f32⟩
  | .hbm, ⟨9, _⟩ => ⟨S13376x2048, .f32⟩
  | .hbm, ⟨10, _⟩ => ⟨S16x2048, .f32⟩
  | .hbm, ⟨11, _⟩ => ⟨S16x2048, .f32⟩
  | .hbm, ⟨12, _⟩ => ⟨S16x2048, .f32⟩
  | .hbm, ⟨13, _⟩ => ⟨S16x2048, .f32⟩
  | .hbm, ⟨14, _⟩ => ⟨S64x2048, .f32⟩
  | .hbm, ⟨15, _⟩ => ⟨S4x2x8x2048, .f32⟩
  | .hbm, ⟨16, _⟩ => ⟨S8x4x2x2048, .f32⟩
  | .hbm, ⟨17, _⟩ => ⟨S64x2048, .f32⟩
  | .hbm, ⟨18, _⟩ => ⟨S_, .i32⟩
  | .hbm, ⟨19, _⟩ => ⟨S_, .f32⟩
  | .hbm, ⟨20, _⟩ => ⟨S128x2048, .f32⟩
  | .hbm, ⟨21, _⟩ => ⟨S_, .f32⟩
  | .hbm, ⟨22, _⟩ => ⟨S16, .f32⟩
  | .hbm, ⟨23, _⟩ => ⟨S2x8, .f32⟩
  | .hbm, ⟨24, _⟩ => ⟨S16, .f32⟩
  | .hbm, ⟨25, _⟩ => ⟨S64, .f32⟩
  | .hbm, ⟨26, _⟩ => ⟨S4x2x8, .f32⟩
  | .hbm, ⟨27, _⟩ => ⟨S8x4x2, .f32⟩
  | .hbm, ⟨28, _⟩ => ⟨S64, .f32⟩
  | .hbm, ⟨29, _⟩ => ⟨S2x8, .f32⟩
  | .hbm, ⟨30, _⟩ => ⟨S16, .f32⟩
  | .hbm, ⟨31, _⟩ => ⟨S2x8, .f32⟩
  | .hbm, ⟨32, _⟩ => ⟨S16, .f32⟩
  | .hbm, ⟨33, _⟩ => ⟨S2x8, .f32⟩
  | .hbm, ⟨34, _⟩ => ⟨S16, .f32⟩
  | .hbm, ⟨35, _⟩ => ⟨S64, .f32⟩
  | .hbm, ⟨36, _⟩ => ⟨S4x2x8, .f32⟩
  | .hbm, ⟨37, _⟩ => ⟨S8x4x2, .f32⟩
  | .hbm, ⟨38, _⟩ => ⟨S64, .f32⟩
  | .hbm, ⟨39, _⟩ => ⟨S1x64, .f32⟩
  | .hbm, ⟨40, _⟩ => ⟨S1x64, .f32⟩
  | .hbm, ⟨41, _⟩ => ⟨S2x64, .f32⟩
  | .hbm, ⟨42, _⟩ => ⟨S_, .i32⟩
  | .hbm, ⟨43, _⟩ => ⟨S_, .f32⟩
  | .hbm, ⟨44, _⟩ => ⟨S2x128, .f32⟩
  | .hbm, ⟨45, _⟩ => ⟨S2048, .f32⟩
  | .hbm, ⟨46, _⟩ => ⟨S1x2048, .f32⟩
  | .hbm, ⟨47, _⟩ => ⟨S8192x13312, .bf16⟩
  | .hbm, ⟨48, _⟩ => ⟨S2x8x4096x8, .f32⟩
  | .local _ .vmem, ⟨0, _⟩ => ⟨S1024x2048, .f32⟩
  | .local _ .vmem, ⟨1, _⟩ => ⟨S1024x2048, .f32⟩
  | .local _ .vmem, ⟨2, _⟩ => ⟨S1x2048, .f32⟩
  | .local _ .vmem, ⟨3, _⟩ => ⟨S1024x2048, .f32⟩
  | .local _ .vmem, ⟨4, _⟩ => ⟨S1024x2048, .f32⟩
  | .local _ .vmem, ⟨5, _⟩ => ⟨S128x2048, .f32⟩
  | .local _ .vmem, ⟨6, _⟩ => ⟨S2x128, .f32⟩
  | .local _ .vmem, ⟨7, _⟩ => ⟨S1024x1024, .bf16⟩
  | .local _ .vmem, ⟨8, _⟩ => ⟨S1024x1024, .bf16⟩
  | .local _ .vmem, ⟨9, _⟩ => ⟨S1x8x1024x8, .f32⟩
  | .local _ .vmem, ⟨10, _⟩ => ⟨S1x8x1024x8, .f32⟩
  | .local _ .vmem, ⟨11, _⟩ => ⟨S1024x2048, .bf16⟩
  | _, _ => ⟨S2x4096x2048, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 11 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | _ => false

abbrev sig : RefSig :=
  ofTc nBuf bufTy 0 11 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_c : Ref sig .tc := ⟨.hbm, 18, rfl⟩
abbrev main_call0_v0 : Ref sig .tc := ⟨.hbm, 19, rfl⟩
abbrev main_v11 : Ref sig .tc := ⟨.hbm, 20, rfl⟩
abbrev main_cst : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_v31 : Ref sig .tc := ⟨.hbm, 41, rfl⟩
abbrev main_c_0 : Ref sig .tc := ⟨.hbm, 42, rfl⟩
abbrev main_call1_v0 : Ref sig .tc := ⟨.hbm, 43, rfl⟩
abbrev main_v32 : Ref sig .tc := ⟨.hbm, 44, rfl⟩
abbrev main_v33 : Ref sig .tc := ⟨.hbm, 45, rfl⟩
abbrev main_v34 : Ref sig .tc := ⟨.hbm, 46, rfl⟩
abbrev main_v35_0 : Ref sig .tc := ⟨.hbm, 47, rfl⟩
abbrev main_v35_1 : Ref sig .tc := ⟨.hbm, 48, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg5_1 : Ref sig .tc := ⟨.vmem, 8, rfl⟩
abbrev cc0_stg6_0 : Ref sig .tc := ⟨.vmem, 9, rfl⟩
abbrev cc0_stg6_1 : Ref sig .tc := ⟨.vmem, 10, rfl⟩
abbrev cc0_scratch0 : Ref sig .tc := ⟨.vmem, 11, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem5_1 : DmaSem sig := 8
abbrev cc0_sem6_0 : DmaSem sig := 9
abbrev cc0_sem6_1 : DmaSem sig := 10

abbrev nD : Nat := 1
abbrev τ : Topo := Topo.v7x

variable {F : FTy → Type} [FloatOps F]

abbrev grid0 : Pipeline.Grid := ⟨2, ![8, 13], ![false, false]⟩

def k0_mult1 (i : grid0.Coords) : BitVec 32 :=
  let arg1 : BitVec 32 := BitVec.ofNat 32 (i 1).val
  let c8_i32 : BitVec 32 := 8#32
  let v10 : BitVec 1 := Scalar.cmpi .sge arg1 c8_i32
  let c4128_i32 : BitVec 32 := 4128#32
  let c8_i32_5 : BitVec 32 := 8#32
  let v11 : BitVec 32 := Scalar.subi arg1 c8_i32_5
  let c1024_i32_6 : BitVec 32 := 1024#32
  let v12 : BitVec 32 := Scalar.muli v11 c1024_i32_6
  let v13 : BitVec 32 := Scalar.addi c4128_i32 v12
  let c4_i32 : BitVec 32 := 4#32
  let v5 : BitVec 1 := Scalar.cmpi .sge arg1 c4_i32
  let c0_i32_4 : BitVec 32 := 0#32
  let c4_i32_2 : BitVec 32 := 4#32
  let v6 : BitVec 32 := Scalar.subi arg1 c4_i32_2
  let c1024_i32_3 : BitVec 32 := 1024#32
  let v7 : BitVec 32 := Scalar.muli v6 c1024_i32_3
  let v8 : BitVec 32 := Scalar.addi c0_i32_4 v7
  let c0_i32 : BitVec 32 := 0#32
  let v0 : BitVec 1 := Scalar.cmpi .sge arg1 c0_i32
  let c9280_i32 : BitVec 32 := 9280#32
  let c0_i32_0 : BitVec 32 := 0#32
  let v1 : BitVec 32 := Scalar.subi arg1 c0_i32_0
  let c1024_i32 : BitVec 32 := 1024#32
  let v2 : BitVec 32 := Scalar.muli v1 c1024_i32
  let v3 : BitVec 32 := Scalar.addi c9280_i32 v2
  let c0_i32_1 : BitVec 32 := 0#32
  let v4 : BitVec 32 := Scalar.select v0 v3 c0_i32_1
  let v9 : BitVec 32 := Scalar.select v5 v8 v4
  let v14 : BitVec 32 := Scalar.select v10 v13 v9
  v14
def k0_cond1 (i : grid0.Coords) : BitVec 1 :=
  let arg1 : BitVec 32 := BitVec.ofNat 32 (i 1).val
  let c0_i32 : BitVec 32 := 0#32
  let v0 : BitVec 1 := Scalar.cmpi .eq arg1 c0_i32
  let v1 : BitVec 32 := Scalar.extui v0
  let c0_i32_0 : BitVec 32 := 0#32
  let v2 : BitVec 1 := Scalar.cmpi .ne v1 c0_i32_0
  v2

def cc0_transform_0 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let arg1 : BitVec 32 := BitVec.ofNat 32 (i 1).val
  let c0_i32 : BitVec 32 := 0#32
  let v0 : BitVec 1 := Scalar.cmpi .sge arg1 c0_i32
  let c0_i32_0 : BitVec 32 := 0#32
  let v1 : BitVec 32 := Scalar.subi arg1 c0_i32_0
  let c1024_i32 : BitVec 32 := 1024#32
  let v2 : BitVec 32 := Scalar.muli v1 c1024_i32
  let c9280_i32 : BitVec 32 := 9280#32
  let v3 : BitVec 32 := Scalar.addi c9280_i32 v2
  let c0_i32_1 : BitVec 32 := 0#32
  let v4 : BitVec 32 := Scalar.select v0 v3 c0_i32_1
  let c4_i32 : BitVec 32 := 4#32
  let v5 : BitVec 1 := Scalar.cmpi .sge arg1 c4_i32
  let c4_i32_2 : BitVec 32 := 4#32
  let v6 : BitVec 32 := Scalar.subi arg1 c4_i32_2
  let c1024_i32_3 : BitVec 32 := 1024#32
  let v7 : BitVec 32 := Scalar.muli v6 c1024_i32_3
  let c0_i32_4 : BitVec 32 := 0#32
  let v8 : BitVec 32 := Scalar.addi c0_i32_4 v7
  let v9 : BitVec 32 := Scalar.select v5 v8 v4
  let c8_i32 : BitVec 32 := 8#32
  let v10 : BitVec 1 := Scalar.cmpi .sge arg1 c8_i32
  let c8_i32_5 : BitVec 32 := 8#32
  let v11 : BitVec 32 := Scalar.subi arg1 c8_i32_5
  let c1024_i32_6 : BitVec 32 := 1024#32
  let v12 : BitVec 32 := Scalar.muli v11 c1024_i32_6
  let c4128_i32 : BitVec 32 := 4128#32
  let v13 : BitVec 32 := Scalar.addi c4128_i32 v12
  let v14 : BitVec 32 := Scalar.select v10 v13 v9
  let v15 : BitVec 32 := v14
  let c0_i32_7 : BitVec 32 := 0#32
  let c0_i32_8 : BitVec 32 := 0#32
  ![v15.toNat, c0_i32_7.toNat]

def cc0_transform_3 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let arg1 : BitVec 32 := BitVec.ofNat 32 (i 1).val
  let c0_i32 : BitVec 32 := 0#32
  ![arg0.toNat, arg1.toNat]

def cc0_transform_6 (i : grid0.Coords) : Fin 4 → Nat :=
  let arg0 : BitVec 32 := BitVec.ofNat 32 (i 0).val
  let arg1 : BitVec 32 := BitVec.ofNat 32 (i 1).val
  let c4_i32 : BitVec 32 := 4#32
  let v0 : BitVec 32 := Scalar.divsi arg0 c4_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c4_i32 c0_i32_1
  let v7 : BitVec 32 := Scalar.extui v6
  let c0_i32_2 : BitVec 32 := 0#32
  let v8 : BitVec 1 := Scalar.cmpi .slt c4_i32 c0_i32_2
  let v9 : BitVec 32 := Scalar.extui v8
  let v10 : BitVec 32 := Scalar.subi v7 v9
  let v11 : BitVec 1 := Scalar.cmpi .ne v5 v10
  let v12 : BitVec 32 := Scalar.remsi arg0 c4_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c4_i32_4 : BitVec 32 := 4#32
  let c0_i32_5 : BitVec 32 := 0#32
  let v17 : BitVec 1 := Scalar.cmpi .eq c4_i32_4 c0_i32_5
  let c1_i32_6 : BitVec 32 := 1#32
  let v18 : BitVec 32 := Scalar.select v17 c1_i32_6 c4_i32_4
  let v19 : BitVec 32 := Scalar.remsi arg0 v18
  let c0_i32_7 : BitVec 32 := 0#32
  let v20 : BitVec 1 := Scalar.cmpi .ne v19 c0_i32_7
  let c0_i32_8 : BitVec 32 := 0#32
  let v21 : BitVec 1 := Scalar.cmpi .slt v19 c0_i32_8
  let c0_i32_9 : BitVec 32 := 0#32
  let v22 : BitVec 1 := Scalar.cmpi .slt v18 c0_i32_9
  let v23 : BitVec 1 := Scalar.xori v21 v22
  let v24 : BitVec 1 := Scalar.andi v23 v20
  let v25 : BitVec 32 := Scalar.addi v19 v18
  let v26 : BitVec 32 := Scalar.select v24 v25 v19
  let c0_i32_10 : BitVec 32 := 0#32
  let c0_i32_11 : BitVec 32 := 0#32
  let c0_i32_12 : BitVec 32 := 0#32
  ![v16.toNat, c0_i32_10.toNat, v26.toNat, c0_i32_11.toNat]

abbrev stage0_0 : Fin 2 → Memref sig .tc .vmem S1024x2048 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true, false]

abbrev stage0_1 : Fin 1 → Memref sig .tc .vmem S1x2048 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false, false]

abbrev stage0_2 : Fin 2 → Memref sig .tc .vmem S1024x2048 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![false, true]

abbrev stage0_3 : Fin 1 → Memref sig .tc .vmem S128x2048 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false, false]

abbrev stage0_4 : Fin 1 → Memref sig .tc .vmem S2x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false, false]

abbrev stage0_5 : Fin 2 → Memref sig .tc .vmem S1024x1024 .bf16 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true, true]

abbrev stage0_6 : Fin 2 → Memref sig .tc .vmem S1x8x1024x8 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true, false]
-- ==== ReferenceIdeal.lean ====
abbrev S2x4096x2048 : Shape := ⟨3, ![2, 4096, 2048]⟩
abbrev S1x2048x13376 : Shape := ⟨3, ![1, 2048, 13376]⟩
abbrev S1x2x8 : Shape := ⟨3, ![1, 2, 8]⟩
abbrev S1x2048 : Shape := ⟨2, ![1, 2048]⟩
abbrev S2048 : Shape := ⟨1, ![2048]⟩
abbrev S_ : Shape := ⟨0, ![]⟩
abbrev S2x4096 : Shape := ⟨2, ![2, 4096]⟩
abbrev S2x4096x1 : Shape := ⟨3, ![2, 4096, 1]⟩
abbrev S1x1x2048 : Shape := ⟨3, ![1, 1, 2048]⟩
abbrev S2048x13376 : Shape := ⟨2, ![2048, 13376]⟩
abbrev S2x4096x13376 : Shape := ⟨3, ![2, 4096, 13376]⟩
abbrev S2x4096x3072 : Shape := ⟨3, ![2, 4096, 3072]⟩
abbrev S2x4096x1024 : Shape := ⟨3, ![2, 4096, 1024]⟩
abbrev S2x4096x16 : Shape := ⟨3, ![2, 4096, 16]⟩
abbrev S2x4096x4096 : Shape := ⟨3, ![2, 4096, 4096]⟩
abbrev S2x4096x2x8 : Shape := ⟨4, ![2, 4096, 2, 8]⟩
abbrev S2x2x8x4096 : Shape := ⟨4, ![2, 2, 8, 4096]⟩
abbrev S2x8 : Shape := ⟨2, ![2, 8]⟩
abbrev S2x1x8x1 : Shape := ⟨4, ![2, 1, 8, 1]⟩
abbrev S2x4096x13312 : Shape := ⟨3, ![2, 4096, 13312]⟩
abbrev S8192x13312 : Shape := ⟨2, ![8192, 13312]⟩
abbrev S1x2x2x8x4096 : Shape := ⟨5, ![1, 2, 2, 8, 4096]⟩
abbrev S4x2x2x8x4096 : Shape := ⟨5, ![4, 2, 2, 8, 4096]⟩
abbrev S2x8x4096x4x2 : Shape := ⟨5, ![2, 8, 4096, 4, 2]⟩
abbrev S2x8x4096x8 : Shape := ⟨4, ![2, 8, 4096, 8]⟩

abbrev nBuf : Space → Nat
  | .hbm => 111
  | .vmem => 0
  | .smem => 0
  | _ => 0

abbrev bufTy : (tb : Table) → Fin (tcTables nBuf tb) → BufTy
  | .hbm, ⟨0, _⟩ => ⟨S2x4096x2048, .f32⟩
  | .hbm, ⟨1, _⟩ => ⟨S1x2048x13376, .f32⟩
  | .hbm, ⟨2, _⟩ => ⟨S1x2x8, .f32⟩
  | .hbm, ⟨3, _⟩ => ⟨S1x2x8, .f32⟩
  | .hbm, ⟨4, _⟩ => ⟨S1x2x8, .f32⟩
  | .hbm, ⟨5, _⟩ => ⟨S1x2x8, .f32⟩
  | .hbm, ⟨6, _⟩ => ⟨S1x2048, .f32⟩
  | .hbm, ⟨7, _⟩ => ⟨S2048, .f32⟩
  | .hbm, ⟨8, _⟩ => ⟨S2x4096x2048, .f32⟩
  | .hbm, ⟨9, _⟩ => ⟨S_, .f32⟩
  | .hbm, ⟨10, _⟩ => ⟨S2x4096, .f32⟩
  | .hbm, ⟨11, _⟩ => ⟨S2x4096x1, .f32⟩
  | .hbm, ⟨12, _⟩ => ⟨S_, .f32⟩
  | .hbm, ⟨13, _⟩ => ⟨S2x4096x1, .f32⟩
  | .hbm, ⟨14, _⟩ => ⟨S2x4096x1, .f32⟩
  | .hbm, ⟨15, _⟩ => ⟨S_, .f32⟩
  | .hbm, ⟨16, _⟩ => ⟨S2x4096x1, .f32⟩
  | .hbm, ⟨17, _⟩ => ⟨S2x4096x1, .f32⟩
  | .hbm, ⟨18, _⟩ => ⟨S2x4096x1, .f32⟩
  | .hbm, ⟨19, _⟩ => ⟨S2x4096x2048, .f32⟩
  | .hbm, ⟨20, _⟩ => ⟨S2x4096x2048, .f32⟩
  | .hbm, ⟨21, _⟩ => ⟨S1x1x2048, .f32⟩
  | .hbm, ⟨22, _⟩ => ⟨S2x4096x2048, .f32⟩
  | .hbm, ⟨23, _⟩ => ⟨S2x4096x2048, .f32⟩
  | .hbm, ⟨24, _⟩ => ⟨S2048x13376, .f32⟩
  | .hbm, ⟨25, _⟩ => ⟨S2x4096x13376, .f32⟩
  | .hbm, ⟨26, _⟩ => ⟨S2x4096x3072, .f32⟩
  | .hbm, ⟨27, _⟩ => ⟨S2x4096x1024, .f32⟩
  | .hbm, ⟨28, _⟩ => ⟨S2x4096x16, .f32⟩
  | .hbm, ⟨29, _⟩ => ⟨S2x4096x16, .f32⟩
  | .hbm, ⟨30, _⟩ => ⟨S2x4096x2048, .f32⟩
  | .hbm, ⟨31, _⟩ => ⟨S2x4096x1024, .f32⟩
  | .hbm, ⟨32, _⟩ => ⟨S2x4096x1024, .f32⟩
  | .hbm, ⟨33, _⟩ => ⟨S2x4096x1024, .f32⟩
  | .hbm, ⟨34, _⟩ => ⟨S2x4096x16, .f32⟩
  | .hbm, ⟨35, _⟩ => ⟨S2x4096x16, .f32⟩
  | .hbm, ⟨36, _⟩ => ⟨S2x4096x4096, .f32⟩
  | .hbm, ⟨37, _⟩ => ⟨S2x4096x2x8, .f32⟩
  | .hbm, ⟨38, _⟩ => ⟨S2x2x8x4096, .f32⟩
  | .hbm, ⟨39, _⟩ => ⟨S2x2x8x4096, .f32⟩
  | .hbm, ⟨40, _⟩ => ⟨S2x2x8x4096, .f32⟩
  | .hbm, ⟨41, _⟩ => ⟨S_, .f32⟩
  | .hbm, ⟨42, _⟩ => ⟨S2x2x8x4096, .f32⟩
  | .hbm, ⟨43, _⟩ => ⟨S2x2x8x4096, .f32⟩
  | .hbm, ⟨44, _⟩ => ⟨S_, .f32⟩
  | .hbm, ⟨45, _⟩ => ⟨S2x2x8x4096, .f32⟩
  | .hbm, ⟨46, _⟩ => ⟨S2x2x8x4096, .f32⟩
  | .hbm, ⟨47, _⟩ => ⟨S2x8, .f32⟩
  | .hbm, ⟨48, _⟩ => ⟨S2x8, .f32⟩
  | .hbm, ⟨49, _⟩ => ⟨S2x1x8x1, .f32⟩
  | .hbm, ⟨50, _⟩ => ⟨S2x1x8x1, .f32⟩
  | .hbm, ⟨51, _⟩ => ⟨S2x4096x2x8, .f32⟩
  | .hbm, ⟨52, _⟩ => ⟨S2x2x8x4096, .f32⟩
  | .hbm, ⟨53, _⟩ => ⟨S2x8, .f32⟩
  | .hbm, ⟨54, _⟩ => ⟨S2x1x8x1, .f32⟩
  | .hbm, ⟨55, _⟩ => ⟨S2x2x8x4096, .f32⟩
  | .hbm, ⟨56, _⟩ => ⟨S2x2x8x4096, .f32⟩
  | .hbm, ⟨57, _⟩ => ⟨S_, .f32⟩
  | .hbm, ⟨58, _⟩ => ⟨S2x2x8x4096, .f32⟩
  | .hbm, ⟨59, _⟩ => ⟨S2x2x8x4096, .f32⟩
  | .hbm, ⟨60, _⟩ => ⟨S2x2x8x4096, .f32⟩
  | .hbm, ⟨61, _⟩ => ⟨S2x2x8x4096, .f32⟩
  | .hbm, ⟨62, _⟩ => ⟨S2x2x8x4096, .i1⟩
  | .hbm, ⟨63, _⟩ => ⟨S2x2x8x4096, .f32⟩
  | .hbm, ⟨64, _⟩ => ⟨S2x2x8x4096, .f32⟩
  | .hbm, ⟨65, _⟩ => ⟨S2x2x8x4096, .f32⟩
  | .hbm, ⟨66, _⟩ => ⟨S2x2x8x4096, .f32⟩
  | .hbm, ⟨67, _⟩ => ⟨S2x2x8x4096, .f32⟩
  | .hbm, ⟨68, _⟩ => ⟨S2x2x8x4096, .f32⟩
  | .hbm, ⟨69, _⟩ => ⟨S2x2x8x4096, .f32⟩
  | .hbm, ⟨70, _⟩ => ⟨S2x2x8x4096, .f32⟩
  | .hbm, ⟨71, _⟩ => ⟨S2x2x8x4096, .f32⟩
  | .hbm, ⟨72, _⟩ => ⟨S2x2x8x4096, .f32⟩
  | .hbm, ⟨73, _⟩ => ⟨S2x4096x2x8, .f32⟩
  | .hbm, ⟨74, _⟩ => ⟨S2x2x8x4096, .f32⟩
  | .hbm, ⟨75, _⟩ => ⟨S2x8, .f32⟩
  | .hbm, ⟨76, _⟩ => ⟨S2x1x8x1, .f32⟩
  | .hbm, ⟨77, _⟩ => ⟨S2x2x8x4096, .f32⟩
  | .hbm, ⟨78, _⟩ => ⟨S2x2x8x4096, .f32⟩
  | .hbm, ⟨79, _⟩ => ⟨S2x4096x2x8, .f32⟩
  | .hbm, ⟨80, _⟩ => ⟨S2x2x8x4096, .f32⟩
  | .hbm, ⟨81, _⟩ => ⟨S2x8, .f32⟩
  | .hbm, ⟨82, _⟩ => ⟨S2x1x8x1, .f32⟩
  | .hbm, ⟨83, _⟩ => ⟨S2x2x8x4096, .f32⟩
  | .hbm, ⟨84, _⟩ => ⟨S2x2x8x4096, .f32⟩
  | .hbm, ⟨85, _⟩ => ⟨S2x2x8x4096, .f32⟩
  | .hbm, ⟨86, _⟩ => ⟨S_, .f32⟩
  | .hbm, ⟨87, _⟩ => ⟨S2x2x8x4096, .f32⟩
  | .hbm, ⟨88, _⟩ => ⟨S2x2x8x4096, .f32⟩
  | .hbm, ⟨89, _⟩ => ⟨S2x2x8x4096, .f32⟩
  | .hbm, ⟨90, _⟩ => ⟨S2x2x8x4096, .f32⟩
  | .hbm, ⟨91, _⟩ => ⟨S2x2x8x4096, .i1⟩
  | .hbm, ⟨92, _⟩ => ⟨S2x2x8x4096, .f32⟩
  | .hbm, ⟨93, _⟩ => ⟨S2x2x8x4096, .f32⟩
  | .hbm, ⟨94, _⟩ => ⟨S2x2x8x4096, .f32⟩
  | .hbm, ⟨95, _⟩ => ⟨S2x2x8x4096, .f32⟩
  | .hbm, ⟨96, _⟩ => ⟨S2x2x8x4096, .f32⟩
  | .hbm, ⟨97, _⟩ => ⟨S2x2x8x4096, .f32⟩
  | .hbm, ⟨98, _⟩ => ⟨S2x2x8x4096, .f32⟩
  | .hbm, ⟨99, _⟩ => ⟨S2x2x8x4096, .f32⟩
  | .hbm, ⟨100, _⟩ => ⟨S2x2x8x4096, .f32⟩
  | .hbm, ⟨101, _⟩ => ⟨S2x4096x13312, .f32⟩
  | .hbm, ⟨102, _⟩ => ⟨S8192x13312, .f32⟩
  | .hbm, ⟨103, _⟩ => ⟨S1x2x2x8x4096, .f32⟩
  | .hbm, ⟨104, _⟩ => ⟨S1x2x2x8x4096, .f32⟩
  | .hbm, ⟨105, _⟩ => ⟨S1x2x2x8x4096, .f32⟩
  | .hbm, ⟨106, _⟩ => ⟨S1x2x2x8x4096, .f32⟩
  | .hbm, ⟨107, _⟩ => ⟨S4x2x2x8x4096, .f32⟩
  | .hbm, ⟨108, _⟩ => ⟨S2x8x4096x4x2, .f32⟩
  | .hbm, ⟨109, _⟩ => ⟨S2x8x4096x8, .f32⟩
  | .hbm, ⟨110, _⟩ => ⟨S8192x13312, .bf16⟩
  | _, _ => ⟨S2x4096x2048, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_cst : Ref sig .tc := ⟨.hbm, 9, rfl⟩
abbrev main_v2 : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_cst_1 : Ref sig .tc := ⟨.hbm, 15, rfl⟩
abbrev main_v6 : Ref sig .tc := ⟨.hbm, 16, rfl⟩
abbrev main_v7 : Ref sig .tc := ⟨.hbm, 17, rfl⟩
abbrev main_v8 : Ref sig .tc := ⟨.hbm, 18, rfl⟩
abbrev main_v9 : Ref sig .tc := ⟨.hbm, 19, rfl⟩
abbrev main_v10 : Ref sig .tc := ⟨.hbm, 20, rfl⟩
abbrev main_v11 : Ref sig .tc := ⟨.hbm, 21, rfl⟩
abbrev main_v12 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_v16 : Ref sig .tc := ⟨.hbm, 26, rfl⟩
abbrev main_v17 : Ref sig .tc := ⟨.hbm, 27, rfl⟩
abbrev main_v18 : Ref sig .tc := ⟨.hbm, 28, rfl⟩
abbrev main_v19 : Ref sig .tc := ⟨.hbm, 29, rfl⟩
abbrev main_v20 : Ref sig .tc := ⟨.hbm, 30, rfl⟩
abbrev main_v21 : Ref sig .tc := ⟨.hbm, 31, rfl⟩
abbrev main_v22 : Ref sig .tc := ⟨.hbm, 32, rfl⟩
abbrev main_v23 : Ref sig .tc := ⟨.hbm, 33, rfl⟩
abbrev main_v24 : Ref sig .tc := ⟨.hbm, 34, rfl⟩
abbrev main_v25 : Ref sig .tc := ⟨.hbm, 35, rfl⟩
abbrev main_v26 : Ref sig .tc := ⟨.hbm, 36, rfl⟩
abbrev main_v27 : Ref sig .tc := ⟨.hbm, 37, rfl⟩
abbrev main_v28 : Ref sig .tc := ⟨.hbm, 38, rfl⟩
abbrev main_v29 : Ref sig .tc := ⟨.hbm, 39, rfl⟩
abbrev main_v30 : Ref sig .tc := ⟨.hbm, 40, rfl⟩
abbrev main_cst_2 : Ref sig .tc := ⟨.hbm, 41, rfl⟩
abbrev main_v31 : Ref sig .tc := ⟨.hbm, 42, rfl⟩
abbrev main_v32 : Ref sig .tc := ⟨.hbm, 43, rfl⟩
abbrev main_cst_3 : Ref sig .tc := ⟨.hbm, 44, rfl⟩
abbrev main_v33 : Ref sig .tc := ⟨.hbm, 45, rfl⟩
abbrev main_v34 : Ref sig .tc := ⟨.hbm, 46, rfl⟩
abbrev main_v35 : Ref sig .tc := ⟨.hbm, 47, rfl⟩
abbrev main_v36 : Ref sig .tc := ⟨.hbm, 48, rfl⟩
abbrev main_v37 : Ref sig .tc := ⟨.hbm, 49, rfl⟩
abbrev main_v38 : Ref sig .tc := ⟨.hbm, 50, rfl⟩
abbrev main_v39 : Ref sig .tc := ⟨.hbm, 51, rfl⟩
abbrev main_v40 : Ref sig .tc := ⟨.hbm, 52, rfl⟩
abbrev main_v41 : Ref sig .tc := ⟨.hbm, 53, rfl⟩
abbrev main_v42 : Ref sig .tc := ⟨.hbm, 54, rfl⟩
abbrev main_v43 : Ref sig .tc := ⟨.hbm, 55, rfl⟩
abbrev main_v44 : Ref sig .tc := ⟨.hbm, 56, rfl⟩
abbrev main_call0_cst : Ref sig .tc := ⟨.hbm, 57, rfl⟩
abbrev main_call0_v0 : Ref sig .tc := ⟨.hbm, 58, rfl⟩
abbrev main_call0_v1 : Ref sig .tc := ⟨.hbm, 59, rfl⟩
abbrev main_call0_v2 : Ref sig .tc := ⟨.hbm, 60, rfl⟩
abbrev main_call0_v3 : Ref sig .tc := ⟨.hbm, 61, rfl⟩
abbrev main_call0_v4 : Ref sig .tc := ⟨.hbm, 62, rfl⟩
abbrev main_call0_v5 : Ref sig .tc := ⟨.hbm, 63, rfl⟩
abbrev main_call0_v6 : Ref sig .tc := ⟨.hbm, 64, rfl⟩
abbrev main_call0_v7 : Ref sig .tc := ⟨.hbm, 65, rfl⟩
abbrev main_call0_v8 : Ref sig .tc := ⟨.hbm, 66, rfl⟩
abbrev main_call0_v9 : Ref sig .tc := ⟨.hbm, 67, rfl⟩
abbrev main_call0_v10 : Ref sig .tc := ⟨.hbm, 68, rfl⟩
abbrev main_call0_v11 : Ref sig .tc := ⟨.hbm, 69, rfl⟩
abbrev main_v45 : Ref sig .tc := ⟨.hbm, 70, rfl⟩
abbrev main_v46 : Ref sig .tc := ⟨.hbm, 71, rfl⟩
abbrev main_v47 : Ref sig .tc := ⟨.hbm, 72, rfl⟩
abbrev main_v48 : Ref sig .tc := ⟨.hbm, 73, rfl⟩
abbrev main_v49 : Ref sig .tc := ⟨.hbm, 74, rfl⟩
abbrev main_v50 : Ref sig .tc := ⟨.hbm, 75, rfl⟩
abbrev main_v51 : Ref sig .tc := ⟨.hbm, 76, rfl⟩
abbrev main_v52 : Ref sig .tc := ⟨.hbm, 77, rfl⟩
abbrev main_v53 : Ref sig .tc := ⟨.hbm, 78, rfl⟩
abbrev main_v54 : Ref sig .tc := ⟨.hbm, 79, rfl⟩
abbrev main_v55 : Ref sig .tc := ⟨.hbm, 80, rfl⟩
abbrev main_v56 : Ref sig .tc := ⟨.hbm, 81, rfl⟩
abbrev main_v57 : Ref sig .tc := ⟨.hbm, 82, rfl⟩
abbrev main_v58 : Ref sig .tc := ⟨.hbm, 83, rfl⟩
abbrev main_v59 : Ref sig .tc := ⟨.hbm, 84, rfl⟩
abbrev main_call1_v0 : Ref sig .tc := ⟨.hbm, 85, rfl⟩
abbrev main_call1_call0_cst : Ref sig .tc := ⟨.hbm, 86, rfl⟩
abbrev main_call1_call0_v0 : Ref sig .tc := ⟨.hbm, 87, rfl⟩
abbrev main_call1_call0_v1 : Ref sig .tc := ⟨.hbm, 88, rfl⟩
abbrev main_call1_call0_v2 : Ref sig .tc := ⟨.hbm, 89, rfl⟩
abbrev main_call1_call0_v3 : Ref sig .tc := ⟨.hbm, 90, rfl⟩
abbrev main_call1_call0_v4 : Ref sig .tc := ⟨.hbm, 91, rfl⟩
abbrev main_call1_call0_v5 : Ref sig .tc := ⟨.hbm, 92, rfl⟩
abbrev main_call1_call0_v6 : Ref sig .tc := ⟨.hbm, 93, rfl⟩
abbrev main_call1_call0_v7 : Ref sig .tc := ⟨.hbm, 94, rfl⟩
abbrev main_call1_call0_v8 : Ref sig .tc := ⟨.hbm, 95, rfl⟩
abbrev main_call1_call0_v9 : Ref sig .tc := ⟨.hbm, 96, rfl⟩
abbrev main_call1_call0_v10 : Ref sig .tc := ⟨.hbm, 97, rfl⟩
abbrev main_call1_call0_v11 : Ref sig .tc := ⟨.hbm, 98, rfl⟩
abbrev main_call1_v1 : Ref sig .tc := ⟨.hbm, 99, rfl⟩
abbrev main_v60 : Ref sig .tc := ⟨.hbm, 100, rfl⟩
abbrev main_v61 : Ref sig .tc := ⟨.hbm, 101, rfl⟩
abbrev main_v62 : Ref sig .tc := ⟨.hbm, 102, rfl⟩
abbrev main_v63 : Ref sig .tc := ⟨.hbm, 103, rfl⟩
abbrev main_v64 : Ref sig .tc := ⟨.hbm, 104, rfl⟩
abbrev main_v65 : Ref sig .tc := ⟨.hbm, 105, rfl⟩
abbrev main_v66 : Ref sig .tc := ⟨.hbm, 106, rfl⟩
abbrev main_v67 : Ref sig .tc := ⟨.hbm, 107, rfl⟩
abbrev main_v68 : Ref sig .tc := ⟨.hbm, 108, rfl⟩
abbrev main_v69 : Ref sig .tc := ⟨.hbm, 109, rfl⟩
abbrev main_v70 : Ref sig .tc := ⟨.hbm, 110, rfl⟩

abbrev nD : Nat := 1
abbrev τ : Topo := Topo.v7x

variable {F : FTy → Type} [FloatOps F]
-- ==== Kernel2.lean ====
abbrev S8192x1024 : Shape := ⟨2, ![8192, 1024]⟩
abbrev S8192x13312 : Shape := ⟨2, ![8192, 13312]⟩
abbrev S2x4096x2048 : Shape := ⟨3, ![2, 4096, 2048]⟩
abbrev S1x4096 : Shape := ⟨2, ![1, 4096]⟩
abbrev S1x1024x2048 : Shape := ⟨3, ![1, 1024, 2048]⟩
abbrev S1x2048x2048 : Shape := ⟨3, ![1, 2048, 2048]⟩
abbrev S2048 : Shape := ⟨1, ![2048]⟩
abbrev S8192x2048 : Shape := ⟨2, ![8192, 2048]⟩
abbrev S1024x2048 : Shape := ⟨2, ![1024, 2048]⟩
abbrev S2048x2048 : Shape := ⟨2, ![2048, 2048]⟩
abbrev S4096 : Shape := ⟨1, ![4096]⟩
abbrev S1x2048 : Shape := ⟨2, ![1, 2048]⟩
abbrev S256x1024 : Shape := ⟨2, ![256, 1024]⟩
abbrev S256x2048 : Shape := ⟨2, ![256, 2048]⟩
abbrev S256 : Shape := ⟨1, ![256]⟩
abbrev S256x1 : Shape := ⟨2, ![256, 1]⟩

abbrev nBuf : Space → Nat
  | .hbm => 17
  | .vmem => 17
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8192x13312, .bf16⟩
  | .hbm, ⟨3, _⟩ => ⟨S2x4096x2048, .f32⟩
  | .hbm, ⟨4, _⟩ => ⟨S1x4096, .f32⟩
  | .hbm, ⟨5, _⟩ => ⟨S1x1024x2048, .f32⟩
  | .hbm, ⟨6, _⟩ => ⟨S1x1024x2048, .f32⟩
  | .hbm, ⟨7, _⟩ => ⟨S1x2048x2048, .f32⟩
  | .hbm, ⟨8, _⟩ => ⟨S2048, .f32⟩
  | .hbm, ⟨9, _⟩ => ⟨S8192x2048, .f32⟩
  | .hbm, ⟨10, _⟩ => ⟨S1024x2048, .f32⟩
  | .hbm, ⟨11, _⟩ => ⟨S1024x2048, .f32⟩
  | .hbm, ⟨12, _⟩ => ⟨S2048x2048, .f32⟩
  | .hbm, ⟨13, _⟩ => ⟨S4096, .f32⟩
  | .hbm, ⟨14, _⟩ => ⟨S1x4096, .f32⟩
  | .hbm, ⟨15, _⟩ => ⟨S1x2048, .f32⟩
  | .hbm, ⟨16, _⟩ => ⟨S8192x2048, .f32⟩
  | .local _ .vmem, ⟨0, _⟩ => ⟨S256x1024, .bf16⟩
  | .local _ .vmem, ⟨1, _⟩ => ⟨S256x1024, .bf16⟩
  | .local _ .vmem, ⟨2, _⟩ => ⟨S256x1024, .bf16⟩
  | .local _ .vmem, ⟨3, _⟩ => ⟨S256x1024, .bf16⟩
  | .local _ .vmem, ⟨4, _⟩ => ⟨S256x2048, .bf16⟩
  | .local _ .vmem, ⟨5, _⟩ => ⟨S256x2048, .bf16⟩
  | .local _ .vmem, ⟨6, _⟩ => ⟨S256x2048, .bf16⟩
  | .local _ .vmem, ⟨7, _⟩ => ⟨S256x2048, .bf16⟩
  | .local _ .vmem, ⟨8, _⟩ => ⟨S256x2048, .f32⟩
  | .local _ .vmem, ⟨9, _⟩ => ⟨S256x2048, .f32⟩
  | .local _ .vmem, ⟨10, _⟩ => ⟨S1024x2048, .f32⟩
  | .local _ .vmem, ⟨11, _⟩ => ⟨S1024x2048, .f32⟩
  | .local _ .vmem, ⟨12, _⟩ => ⟨S2048x2048, .f32⟩
  | .local _ .vmem, ⟨13, _⟩ => ⟨S1x4096, .f32⟩
  | .local _ .vmem, ⟨14, _⟩ => ⟨S1x2048, .f32⟩
  | .local _ .vmem, ⟨15, _⟩ => ⟨S256x2048, .f32⟩
  | .local _ .vmem, ⟨16, _⟩ => ⟨S256x2048, .f32⟩
  | _, _ => ⟨S8192x1024, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | _, _ => false

abbrev semScoped : Fin 0 → Bool
  | ⟨_, h⟩ => absurd h (Nat.not_lt_zero _)

abbrev dmaSemScoped : Fin 17 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | _ => false

abbrev sig : RefSig :=
  ofTc nBuf bufTy 0 17 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg6_0 : Ref sig .tc := ⟨.vmem, 11, rfl⟩
abbrev cc0_stg7_0 : Ref sig .tc := ⟨.vmem, 12, rfl⟩
abbrev cc0_stg8_0 : Ref sig .tc := ⟨.vmem, 13, rfl⟩
abbrev cc0_stg9_0 : Ref sig .tc := ⟨.vmem, 14, rfl⟩
abbrev cc0_stg10_0 : Ref sig .tc := ⟨.vmem, 15, rfl⟩
abbrev cc0_stg10_1 : Ref sig .tc := ⟨.vmem, 16, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem6_0 : DmaSem sig := 11
abbrev cc0_sem7_0 : DmaSem sig := 12
abbrev cc0_sem8_0 : DmaSem sig := 13
abbrev cc0_sem9_0 : DmaSem sig := 14
abbrev cc0_sem10_0 : DmaSem sig := 15
abbrev cc0_sem10_1 : DmaSem sig := 16

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c1_i32 : BitVec 32 := 1#32
  let c0_i32 : BitVec 32 := 0#32
  ![arg0.toNat, c1_i32.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_10 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1024 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x1024 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x2048 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S256x2048 .bf16 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S256x2048 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 1 → Memref sig .tc .vmem S1024x2048 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1024x2048 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S2048x2048 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S1x4096 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S1x2048 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S256x2048 .f32 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]
-- ==== Reference2Ideal.lean ====
abbrev S8192x1024 : Shape := ⟨2, ![8192, 1024]⟩
abbrev S8192x13312 : Shape := ⟨2, ![8192, 13312]⟩
abbrev S2x4096x2048 : Shape := ⟨3, ![2, 4096, 2048]⟩
abbrev S1x4096 : Shape := ⟨2, ![1, 4096]⟩
abbrev S1x1024x2048 : Shape := ⟨3, ![1, 1024, 2048]⟩
abbrev S1x2048x2048 : Shape := ⟨3, ![1, 2048, 2048]⟩
abbrev S2048 : Shape := ⟨1, ![2048]⟩
abbrev S2x4096x1024 : Shape := ⟨3, ![2, 4096, 1024]⟩
abbrev S8192x4096 : Shape := ⟨2, ![8192, 4096]⟩
abbrev S2x4096x4096 : Shape := ⟨3, ![2, 4096, 4096]⟩
abbrev S4096 : Shape := ⟨1, ![4096]⟩
abbrev S1x1x4096 : Shape := ⟨3, ![1, 1, 4096]⟩
abbrev S_ : Shape := ⟨0, ![]⟩
abbrev S2x4096x2x2048 : Shape := ⟨4, ![2, 4096, 2, 2048]⟩
abbrev S2x4096x1x2048 : Shape := ⟨4, ![2, 4096, 1, 2048]⟩
abbrev S1024x2048 : Shape := ⟨2, ![1024, 2048]⟩
abbrev S2048x2048 : Shape := ⟨2, ![2048, 2048]⟩
abbrev S2x4096 : Shape := ⟨2, ![2, 4096]⟩
abbrev S2x4096x1 : Shape := ⟨3, ![2, 4096, 1]⟩
abbrev S1x1x2048 : Shape := ⟨3, ![1, 1, 2048]⟩
abbrev S8192x2048 : Shape := ⟨2, ![8192, 2048]⟩

abbrev nBuf : Space → Nat
  | .hbm => 60
  | .vmem => 0
  | .smem => 0
  | _ => 0

abbrev bufTy : (tb : Table) → Fin (tcTables nBuf tb) → BufTy
  | .hbm, ⟨0, _⟩ => ⟨S8192x1024, .bf16⟩
  | .hbm, ⟨1, _⟩ => ⟨S8192x1024, .bf16⟩
  | .hbm, ⟨2, _⟩ => ⟨S8192x13312, .bf16⟩
  | .hbm, ⟨3, _⟩ => ⟨S2x4096x2048, .f32⟩
  | .hbm, ⟨4, _⟩ => ⟨S1x4096, .f32⟩
  | .hbm, ⟨5, _⟩ => ⟨S1x1024x2048, .f32⟩
  | .hbm, ⟨6, _⟩ => ⟨S1x1024x2048, .f32⟩
  | .hbm, ⟨7, _⟩ => ⟨S1x2048x2048, .f32⟩
  | .hbm, ⟨8, _⟩ => ⟨S2048, .f32⟩
  | .hbm, ⟨9, _⟩ => ⟨S8192x1024, .f32⟩
  | .hbm, ⟨10, _⟩ => ⟨S2x4096x1024, .f32⟩
  | .hbm, ⟨11, _⟩ => ⟨S8192x1024, .f32⟩
  | .hbm, ⟨12, _⟩ => ⟨S2x4096x1024, .f32⟩
  | .hbm, ⟨13, _⟩ => ⟨S8192x4096, .bf16⟩
  | .hbm, ⟨14, _⟩ => ⟨S8192x4096, .f32⟩
  | .hbm, ⟨15, _⟩ => ⟨S2x4096x4096, .f32⟩
  | .hbm, ⟨16, _⟩ => ⟨S4096, .f32⟩
  | .hbm, ⟨17, _⟩ => ⟨S1x1x4096, .f32⟩
  | .hbm, ⟨18, _⟩ => ⟨S2x4096x4096, .f32⟩
  | .hbm, ⟨19, _⟩ => ⟨S2x4096x4096, .f32⟩
  | .hbm, ⟨20, _⟩ => ⟨S2x4096x4096, .f32⟩
  | .hbm, ⟨21, _⟩ => ⟨S2x4096x4096, .f32⟩
  | .hbm, ⟨22, _⟩ => ⟨S_, .f32⟩
  | .hbm, ⟨23, _⟩ => ⟨S2x4096x4096, .f32⟩
  | .hbm, ⟨24, _⟩ => ⟨S2x4096x4096, .f32⟩
  | .hbm, ⟨25, _⟩ => ⟨S_, .f32⟩
  | .hbm, ⟨26, _⟩ => ⟨S2x4096x4096, .f32⟩
  | .hbm, ⟨27, _⟩ => ⟨S2x4096x4096, .f32⟩
  | .hbm, ⟨28, _⟩ => ⟨S2x4096x2x2048, .f32⟩
  | .hbm, ⟨29, _⟩ => ⟨S2x4096x1x2048, .f32⟩
  | .hbm, ⟨30, _⟩ => ⟨S2x4096x2048, .f32⟩
  | .hbm, ⟨31, _⟩ => ⟨S1024x2048, .f32⟩
  | .hbm, ⟨32, _⟩ => ⟨S2x4096x2048, .f32⟩
  | .hbm, ⟨33, _⟩ => ⟨S2x4096x2048, .f32⟩
  | .hbm, ⟨34, _⟩ => ⟨S2x4096x1x2048, .f32⟩
  | .hbm, ⟨35, _⟩ => ⟨S2x4096x2048, .f32⟩
  | .hbm, ⟨36, _⟩ => ⟨S1024x2048, .f32⟩
  | .hbm, ⟨37, _⟩ => ⟨S2x4096x2048, .f32⟩
  | .hbm, ⟨38, _⟩ => ⟨S2x4096x2048, .f32⟩
  | .hbm, ⟨39, _⟩ => ⟨S2x4096x2048, .f32⟩
  | .hbm, ⟨40, _⟩ => ⟨S2048x2048, .f32⟩
  | .hbm, ⟨41, _⟩ => ⟨S2x4096x2048, .f32⟩
  | .hbm, ⟨42, _⟩ => ⟨S2x4096x2048, .f32⟩
  | .hbm, ⟨43, _⟩ => ⟨S2x4096x2048, .f32⟩
  | .hbm, ⟨44, _⟩ => ⟨S_, .f32⟩
  | .hbm, ⟨45, _⟩ => ⟨S2x4096, .f32⟩
  | .hbm, ⟨46, _⟩ => ⟨S2x4096x1, .f32⟩
  | .hbm, ⟨47, _⟩ => ⟨S_, .f32⟩
  | .hbm, ⟨48, _⟩ => ⟨S2x4096x1, .f32⟩
  | .hbm, ⟨49, _⟩ => ⟨S2x4096x1, .f32⟩
  | .hbm, ⟨50, _⟩ => ⟨S_, .f32⟩
  | .hbm, ⟨51, _⟩ => ⟨S2x4096x1, .f32⟩
  | .hbm, ⟨52, _⟩ => ⟨S2x4096x1, .f32⟩
  | .hbm, ⟨53, _⟩ => ⟨S2x4096x1, .f32⟩
  | .hbm, ⟨54, _⟩ => ⟨S2x4096x2048, .f32⟩
  | .hbm, ⟨55, _⟩ => ⟨S2x4096x2048, .f32⟩
  | .hbm, ⟨56, _⟩ => ⟨S1x1x2048, .f32⟩
  | .hbm, ⟨57, _⟩ => ⟨S2x4096x2048, .f32⟩
  | .hbm, ⟨58, _⟩ => ⟨S2x4096x2048, .f32⟩
  | .hbm, ⟨59, _⟩ => ⟨S8192x2048, .f32⟩
  | _, _ => ⟨S8192x1024, .bf16⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_v10 : Ref sig .tc := ⟨.hbm, 19, rfl⟩
abbrev main_v11 : Ref sig .tc := ⟨.hbm, 20, rfl⟩
abbrev main_v12 : Ref sig .tc := ⟨.hbm, 21, rfl⟩
abbrev main_cst : Ref sig .tc := ⟨.hbm, 22, rfl⟩
abbrev main_v13 : Ref sig .tc := ⟨.hbm, 23, rfl⟩
abbrev main_v14 : Ref sig .tc := ⟨.hbm, 24, rfl⟩
abbrev main_cst_0 : Ref sig .tc := ⟨.hbm, 25, rfl⟩
abbrev main_v15 : Ref sig .tc := ⟨.hbm, 26, rfl⟩
abbrev main_v16 : Ref sig .tc := ⟨.hbm, 27, rfl⟩
abbrev main_v17 : Ref sig .tc := ⟨.hbm, 28, rfl⟩
abbrev main_v18 : Ref sig .tc := ⟨.hbm, 29, rfl⟩
abbrev main_v19 : Ref sig .tc := ⟨.hbm, 30, rfl⟩
abbrev main_v20 : Ref sig .tc := ⟨.hbm, 31, rfl⟩
abbrev main_v21 : Ref sig .tc := ⟨.hbm, 32, rfl⟩
abbrev main_v22 : Ref sig .tc := ⟨.hbm, 33, rfl⟩
abbrev main_v23 : Ref sig .tc := ⟨.hbm, 34, rfl⟩
abbrev main_v24 : Ref sig .tc := ⟨.hbm, 35, rfl⟩
abbrev main_v25 : Ref sig .tc := ⟨.hbm, 36, rfl⟩
abbrev main_v26 : Ref sig .tc := ⟨.hbm, 37, rfl⟩
abbrev main_v27 : Ref sig .tc := ⟨.hbm, 38, rfl⟩
abbrev main_v28 : Ref sig .tc := ⟨.hbm, 39, rfl⟩
abbrev main_v29 : Ref sig .tc := ⟨.hbm, 40, rfl⟩
abbrev main_v30 : Ref sig .tc := ⟨.hbm, 41, rfl⟩
abbrev main_v31 : Ref sig .tc := ⟨.hbm, 42, rfl⟩
abbrev main_v32 : Ref sig .tc := ⟨.hbm, 43, rfl⟩
abbrev main_cst_1 : Ref sig .tc := ⟨.hbm, 44, rfl⟩
abbrev main_v33 : Ref sig .tc := ⟨.hbm, 45, rfl⟩
abbrev main_v34 : Ref sig .tc := ⟨.hbm, 46, rfl⟩
abbrev main_cst_2 : Ref sig .tc := ⟨.hbm, 47, rfl⟩
abbrev main_v35 : Ref sig .tc := ⟨.hbm, 48, rfl⟩
abbrev main_v36 : Ref sig .tc := ⟨.hbm, 49, rfl⟩
abbrev main_cst_3 : Ref sig .tc := ⟨.hbm, 50, rfl⟩
abbrev main_v37 : Ref sig .tc := ⟨.hbm, 51, rfl⟩
abbrev main_v38 : Ref sig .tc := ⟨.hbm, 52, rfl⟩
abbrev main_v39 : Ref sig .tc := ⟨.hbm, 53, rfl⟩
abbrev main_v40 : Ref sig .tc := ⟨.hbm, 54, rfl⟩
abbrev main_v41 : Ref sig .tc := ⟨.hbm, 55, rfl⟩
abbrev main_v42 : Ref sig .tc := ⟨.hbm, 56, rfl⟩
abbrev main_v43 : Ref sig .tc := ⟨.hbm, 57, rfl⟩
abbrev main_v44 : Ref sig .tc := ⟨.hbm, 58, rfl⟩
abbrev main_v45 : Ref sig .tc := ⟨.hbm, 59, rfl⟩

abbrev nD : Nat := 1
abbrev τ : Topo := Topo.v7x

variable {F : FTy → Type} [FloatOps F]
-- ==== Proof.InProjRuns.lean ====
/- The two runs of the input projection's body, with what each buffer holds afterwards. A point whose column
   block is the first normalises its rows into the scratch buffer and stores the eight heads' gates before it
   multiplies; every other point only multiplies the scratch buffer by its block of the weights. -/
module

public import proofs.«01_k».proof.Proof.Gen.KernelIdeal.Frame
public import proofs.«01_k».proof.Proof.Gen.KernelIdeal.Skeleton
public import Idealize.ShloMosaic.Lib.Pipeline.Value
public import Idealize.ShloMosaic.Lib.Pipeline.ValueKit

@[expose] public section

set_option maxRecDepth 16384

noncomputable section

namespace Cert.KernelIdeal.InProj

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

/-- The first row of the gates' parameters: what is exponentiated. -/
def row0 (x4 : Vec F S2x128 .f32) : Vec F S1x128 .f32 :=
  View.ld x4 (Rect.unit (s := S2x128) ![0, 0] S1x128.size inb_S2x128_S1x128_0_0)
/-- The second row of the gates' parameters: the biases. -/
def row1 (x4 : Vec F S2x128 .f32) : Vec F S1x128 .f32 :=
  View.ld x4 (Rect.unit (s := S2x128) ![1, 0] S1x128.size inb_S2x128_S1x128_1_0)

/-- A tile's gate activations, one column a gate: the normalised rows against the gates' weights, biased, then
    put through the gate's own activation. -/
def gateCols (x0 : Vec F S1024x2048 .f32) (x1 : Vec F S1x2048 .f32) (x3 : Vec F S128x2048 .f32) (x4 : Vec F S2x128 .f32) :
    FVec F S1024x128 .f32 :=
  k0_pay8 (k0_pay4 (k0_pay3 x0 x1) x3 (row1 x4)) k0_pay5 (k0_pay6 (row0 x4)) k0_pay7

/-- The gates' staging buffer: entry `(0, h, r, g)` is column `8 h + g` of row `r`. -/
def gateTile (a : FVec F S1024x128 .f32) : Vec F S1x8x1024x8 .f32 := fun y =>
  a (ValueIdx.ix2 (y 2) ⟨8 * (y 1).val + (y 3).val, by
    have h1 : (y 1).val < 8 := (y 1).isLt
    have h3 : (y 3).val < 8 := (y 3).isLt
    omega⟩)

-- the run's term is large
set_option maxHeartbeats 4000000 in
/-- A point of the first column block, at any staging buffers: the projection's tile, the gates' tile and the
    normalised rows are left in their buffers, whatever these held. -/
theorem runFirst (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S1024x2048 .f32) (harg4 : arg4.IsWhole) (arg5 : Memref sig .tc .vmem S128x2048 .f32) (harg5 : arg5.IsWhole) (arg6 : Memref sig .tc .vmem S2x128 .f32) (harg6 : arg6.IsWhole)
    (arg7 : Memref sig .tc .vmem S1024x1024 .bf16) (harg7 : arg7.IsWhole) (arg8 : Memref sig .tc .vmem S1x8x1024x8 .f32) (harg8 : arg8.IsWhole) (arg9 : Memref sig .tc .vmem S1024x2048 .bf16) (harg9 : arg9.IsWhole) (hc : k0_cond1 i = 1#1)
    (x0 : Vec F S1024x2048 .f32) (x1 : Vec F S1x2048 .f32) (x2 : Vec F S1024x2048 .f32) (x3 : Vec F S128x2048 .f32) (x4 : Vec F S2x128 .f32) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ (∃ d, owns (c : Thread nD τ) arg8 fullShare d) ∗ (∃ d, owns (c : Thread nD τ) arg9 fullShare d)
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (k0_pay2 (k0_pay3 x0 x1) x2) ∗ owns (c : Thread nD τ) arg8 fullShare (gateTile (gateCols x0 x1 x3 x4)) ∗ owns (c : Thread nD τ) arg9 fullShare (k0_pay3 x0 x1)) -∗ K ⟨⟩))
          ⊢ wp frame (wpE (defs₀ (F := F)) Variants.none c none) E (cc0_in_proj i arg2 harg2 arg3 harg3 arg4 harg4 arg5 harg5 arg6 harg6 arg7 harg7 arg8 harg8 arg9 harg9) K := by
    intro E K
    simp only [cc0_in_proj_eq_skeleton]; unfold cc0_in_proj_skel
    simp only [k0_part1_eq_skeleton, k0_part2_eq_skeleton, k0_part3_eq_skeleton]
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%d6, %f6, -, H6⟩, ⟨%ds0, %fs0, -, HS0⟩, Hk⟩
    obtain rfl := harg2.eq_unread hf0; obtain rfl := harg3.eq_unread hf1; obtain rfl := harg4.eq_unread hf2; obtain rfl := harg5.eq_unread hf3; obtain rfl := harg6.eq_unread hf4
    sl_exec (disch := first | sl_exact hc)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; swap; · iexact H5
      ipureintro
      refine (View.read_writes_eq_canon _ _ _ (View.cover_of_tiledL _ S1024x1024.size (by sl_kernel_rfl))).trans ?_
      frame_out
    isplitl [H6]
    · iexists _; isplitr; swap; · iexact H6
      ipureintro
      refine (View.read_writes_eq_canon (Val := Elt F) arg8.view f6 _ ?_).trans ?_
      · exact View.cover_of_tiledL _ S1x1x1024x8.size (by sl_kernel_rfl)
      frame_out
      rw [← row0, ← row1, ← gateCols]
      funext y
      unfold gateTile
      canon_tiles x h
      all_goals (pointwise [k0_pay1, k0_pay10, k0_pay11, k0_pay12, k0_pay13, k0_pay14, k0_pay15, k0_pay16, k0_pay17, k0_pay9])
      all_goals try rw [← gateCols]
      all_goals blk_ext
      all_goals (show ((x 2 : Fin _) : ℕ) = ((y 2 : Fin _) : ℕ); omega)
    iexists _; isplitr; swap; · iexact HS0
    ipureintro
    refine (View.read_writes_eq_canon _ _ _ (View.cover_of_tiledL _ S1024x2048.size (by sl_kernel_rfl))).trans ?_
    frame_out

set_option maxHeartbeats 2000000 in
/-- Any other point: the projection's tile of the rows the scratch buffer holds; the gates' buffer and the scratch
    buffer keep what they held. -/
theorem runLater (c : Dev nD) (i : grid0.Coords) (arg2 : Memref sig .tc .vmem S1024x2048 .f32) (harg2 : arg2.IsWhole) (arg3 : Memref sig .tc .vmem S1x2048 .f32) (harg3 : arg3.IsWhole) (arg4 : Memref sig .tc .vmem S1024x2048 .f32) (harg4 : arg4.IsWhole) (arg5 : Memref sig .tc .vmem S128x2048 .f32) (harg5 : arg5.IsWhole) (arg6 : Memref sig .tc .vmem S2x128 .f32) (harg6 : arg6.IsWhole)
    (arg7 : Memref sig .tc .vmem S1024x1024 .bf16) (harg7 : arg7.IsWhole) (arg8 : Memref sig .tc .vmem S1x8x1024x8 .f32) (harg8 : arg8.IsWhole) (arg9 : Memref sig .tc .vmem S1024x2048 .bf16) (harg9 : arg9.IsWhole) (hc : ¬ k0_cond1 i = 1#1)
    (x0 : Vec F S1024x2048 .f32) (x1 : Vec F S1x2048 .f32) (x2 : Vec F S1024x2048 .f32) (x3 : Vec F S128x2048 .f32) (x4 : Vec F S2x128 .f32) (x6 : Vec F S1x8x1024x8 .f32) (n : Vec F S1024x2048 .bf16) :
      ∀ (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ (∃ d, owns (c : Thread nD τ) arg7 fullShare d) ∗ owns (c : Thread nD τ) arg8 fullShare x6 ∗ owns (c : Thread nD τ) arg9 fullShare n
            ∗ (iprop(owns (c : Thread nD τ) arg2 fullShare x0 ∗ owns (c : Thread nD τ) arg3 fullShare x1 ∗ owns (c : Thread nD τ) arg4 fullShare x2 ∗ owns (c : Thread nD τ) arg5 fullShare x3 ∗ owns (c : Thread nD τ) arg6 fullShare x4 ∗ owns (c : Thread nD τ) arg7 fullShare (k0_pay2 n x2) ∗ owns (c : Thread nD τ) arg8 fullShare x6 ∗ owns (c : Thread nD τ) arg9 fullShare n) -∗ K ⟨⟩))
          ⊢ wp frame (wpE (defs₀ (F := F)) Variants.none c none) E (cc0_in_proj i arg2 harg2 arg3 harg3 arg4 harg4 arg5 harg5 arg6 harg6 arg7 harg7 arg8 harg8 arg9 harg9) K := by
    intro E K
    simp only [cc0_in_proj_eq_skeleton]; unfold cc0_in_proj_skel
    unfold owns
    iintro ⟨⟨%f0, %hf0, H0⟩, ⟨%f1, %hf1, H1⟩, ⟨%f2, %hf2, H2⟩, ⟨%f3, %hf3, H3⟩, ⟨%f4, %hf4, H4⟩, ⟨%d5, %f5, -, H5⟩, ⟨%f6, %hf6, H6⟩, ⟨%fs0, %hfs0, HS0⟩, Hk⟩
    obtain rfl := harg2.eq_unread hf0; obtain rfl := harg3.eq_unread hf1; obtain rfl := harg4.eq_unread hf2; obtain rfl := harg5.eq_unread hf3; obtain rfl := harg6.eq_unread hf4
    obtain rfl := harg8.eq_unread hf6; obtain rfl := harg9.eq_unread hfs0
    sl_exec (disch := first | sl_exact hc)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [H4]
    · iexists _; isplitr; · ipureintro; exact harg6.read_unread _
      iexact H4
    isplitl [H5]
    · iexists _; isplitr; swap; · iexact H5
      ipureintro
      refine (View.read_writes_eq_canon _ _ _ (View.cover_of_tiledL _ S1024x1024.size (by sl_kernel_rfl))).trans ?_
      frame_out
    isplitl [H6]
    · iexists _; isplitr; · ipureintro; exact harg8.read_unread _
      iexact H6
    iexists _; isplitr; · ipureintro; exact harg9.read_unread _
    iexact HS0

end Cert.KernelIdeal.InProj

end
-- ==== Proof.InProjFrame.lean ====
/- The input projection's launch. Its proof data say what every buffer holds point by point: the scratch buffer
   carries a row block's normalised rows from the block's first point to its last, and so does the gates' staging
   buffer with their tile, which only the last point writes back. Hence the frame, with each result's contents. -/
module

public import proofs.«01_k».proof.Proof.InProjRuns
public import Idealize.ShloMosaic.Lib.Claim

@[expose] public section

set_option maxRecDepth 16384

noncomputable section

namespace Cert.KernelIdeal.InProj

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The points -/

/-- The branch is taken exactly at the points of the first column block. -/
theorem first_iff : ∀ t : Fin cfg0.N, k0_cond1 (grid0.coords t) = 1#1 ↔ t.val % 13 = 0 :=
  (by decide +kernel : ∀ t : Fin grid0.N, k0_cond1 (grid0.coords t) = 1#1 ↔ t.val % 13 = 0)

/-- Window 0 is used at every point. -/
theorem liveAt0_0 : ∀ t : Fin cfg0.N, cfg0.idle 0 (grid0.coords t) = false := fun _ => rfl
/-- Window 1 is used at every point. -/
theorem liveAt0_1 : ∀ t : Fin cfg0.N, cfg0.idle 1 (grid0.coords t) = false := fun _ => rfl
/-- Window 2 is used at every point. -/
theorem liveAt0_2 : ∀ t : Fin cfg0.N, cfg0.idle 2 (grid0.coords t) = false := fun _ => rfl
/-- Window 3 is used at every point. -/
theorem liveAt0_3 : ∀ t : Fin cfg0.N, cfg0.idle 3 (grid0.coords t) = false := fun _ => rfl
/-- Window 4 is used at every point. -/
theorem liveAt0_4 : ∀ t : Fin cfg0.N, cfg0.idle 4 (grid0.coords t) = false := fun _ => rfl
/-- Window 5 is used at every point. -/
theorem liveAt0_5 : ∀ t : Fin cfg0.N, cfg0.idle 5 (grid0.coords t) = false := fun _ => rfl
/-- The gates' window is left alone at every point but the first of its row block. -/
theorem idle6_iff : ∀ t : Fin cfg0.N, cfg0.idle 6 (grid0.coords t) = true ↔ t.val % 13 ≠ 0 :=
  (by decide +kernel : ∀ t : Fin grid0.N, idle0 6 (grid0.coords t) = true ↔ t.val % 13 ≠ 0)

/-- Row blocks go by `t / 13`. -/
theorem index0 : ∀ t : Fin cfg0.N, win0_0.index t = ![t.val / 13, 0] :=
  (by decide +kernel : ∀ t : Fin grid0.N, win0_0.index t = ![t.val / 13, 0])
/-- The norm's weights are one block. -/
theorem index1 : ∀ t : Fin cfg0.N, win0_1.index t = ![0, 0] :=
  (by decide +kernel : ∀ t : Fin grid0.N, win0_1.index t = ![0, 0])
/-- The gates' weights are one block. -/
theorem index3 : ∀ t : Fin cfg0.N, win0_3.index t = ![0, 0] :=
  (by decide +kernel : ∀ t : Fin grid0.N, win0_3.index t = ![0, 0])
/-- The gates' parameters are one block. -/
theorem index4 : ∀ t : Fin cfg0.N, win0_4.index t = ![0, 0] :=
  (by decide +kernel : ∀ t : Fin grid0.N, win0_4.index t = ![0, 0])

/-! ## The windows' buffers -/

/-- Each window's staging buffer at point `t`, and that it is a whole buffer. -/
abbrev ms0_0 (t : Fin cfg0.N) : Memref sig .tc .vmem S1024x2048 .f32 := win0_0.stage (cfg0.slots t 0)
abbrev hs0_0 (t : Fin cfg0.N) : (ms0_0 t).IsWhole := hstage0_0 ((cfg0.slots t 0).cast nbuf0_0)
abbrev ms0_1 (t : Fin cfg0.N) : Memref sig .tc .vmem S1x2048 .f32 := win0_1.stage (cfg0.slots t 1)
abbrev hs0_1 (t : Fin cfg0.N) : (ms0_1 t).IsWhole := hstage0_1 ((cfg0.slots t 1).cast nbuf0_1)
abbrev ms0_2 (t : Fin cfg0.N) : Memref sig .tc .vmem S1024x2048 .f32 := win0_2.stage (cfg0.slots t 2)
abbrev hs0_2 (t : Fin cfg0.N) : (ms0_2 t).IsWhole := hstage0_2 ((cfg0.slots t 2).cast nbuf0_2)
abbrev ms0_3 (t : Fin cfg0.N) : Memref sig .tc .vmem S128x2048 .f32 := win0_3.stage (cfg0.slots t 3)
abbrev hs0_3 (t : Fin cfg0.N) : (ms0_3 t).IsWhole := hstage0_3 ((cfg0.slots t 3).cast nbuf0_3)
abbrev ms0_4 (t : Fin cfg0.N) : Memref sig .tc .vmem S2x128 .f32 := win0_4.stage (cfg0.slots t 4)
abbrev hs0_4 (t : Fin cfg0.N) : (ms0_4 t).IsWhole := hstage0_4 ((cfg0.slots t 4).cast nbuf0_4)
abbrev ms0_5 (t : Fin cfg0.N) : Memref sig .tc .vmem S1024x1024 .bf16 := win0_5.stage (cfg0.slots t 5)
abbrev hs0_5 (t : Fin cfg0.N) : (ms0_5 t).IsWhole := hstage0_5 ((cfg0.slots t 5).cast nbuf0_5)
abbrev ms0_6 (t : Fin cfg0.N) : Memref sig .tc .vmem S1x8x1024x8 .f32 := win0_6.stage (cfg0.slots t 6)
abbrev hs0_6 (t : Fin cfg0.N) : (ms0_6 t).IsWhole := hstage0_6 ((cfg0.slots t 6).cast nbuf0_6)
/-- The scratch buffer holding a row block's normalised rows. -/
abbrev scM0_0 : Memref sig .tc .vmem S1024x2048 .bf16 := Memref.whole cc0_scratch0

/-- The rows of point `t`'s row block, normalised. -/
def rows (c : Dev nD) (t : Fin cfg0.N) : Vec F S1024x2048 .bf16 := k0_pay3 (iblk m c 0 t) (iblk m c 1 t)

/-- The gates of point `t`'s row block. -/
def gates (c : Dev nD) (t : Fin cfg0.N) : Vec F S1x8x1024x8 .f32 :=
  gateTile (gateCols (iblk m c 0 t) (iblk m c 1 t) (iblk m c 3 t) (iblk m c 4 t))

/-- Points of one row block read the same rows. -/
theorem iblk0_congr (c : Dev nD) (t t' : Fin cfg0.N) (h : t.val / 13 = t'.val / 13) : iblk m c 0 t = iblk m c 0 t' := by
  have e : win0_0.index t = win0_0.index t' := by rw [index0, index0, h]
  unfold iblk
  funext y
  refine congrArg (V m c (Pipeline.arrRef spec0 0)) (?_ : ((cfg0.win 0).blk t).view.emb y = ((cfg0.win 0).blk t').view.emb y)
  blk_ext [index0]
/-- Every point reads the same norm weights. -/
theorem iblk1_congr (c : Dev nD) (t t' : Fin cfg0.N) : iblk m c 1 t = iblk m c 1 t' := by
  rfl
/-- Every point reads the same gate weights. -/
theorem iblk3_congr (c : Dev nD) (t t' : Fin cfg0.N) : iblk m c 3 t = iblk m c 3 t' := by
  rfl
/-- Every point reads the same gate parameters. -/
theorem iblk4_congr (c : Dev nD) (t t' : Fin cfg0.N) : iblk m c 4 t = iblk m c 4 t' := by
  rfl

/-- The normalised rows are the row block's. -/
theorem rows_congr (c : Dev nD) (t t' : Fin cfg0.N) (h : t.val / 13 = t'.val / 13) : rows m c t = rows m c t' := by
  unfold rows; rw [iblk0_congr m c t t' h, iblk1_congr m c t t']
/-- The gates are the row block's. -/
theorem gates_congr (c : Dev nD) (t t' : Fin cfg0.N) (h : t.val / 13 = t'.val / 13) : gates m c t = gates m c t' := by
  unfold gates; rw [iblk0_congr m c t t' h, iblk1_congr m c t t', iblk3_congr m c t t', iblk4_congr m c t t']

/-! ## The proof data -/

/-- What is kept between points: the scratch buffer, which inside a row block holds the rows normalised at the
    block's first point, and the generator register. -/
def carried (c : Dev nD) (n : ℕ) : sProp 𝕄 :=
  iprop((∃ X, ⌜∀ h : n - 1 < cfg0.N, n % 13 ≠ 0 → X = rows m c ⟨n - 1, h⟩⌝ ∗ owns (c : Thread nD τ) scM0_0 fullShare X) ∗ (∃ r, prngReg c r))

/-- The proof data: each input's buffer keeps its block; the projection's holds its tile; the gates' holds its row
    block's tile throughout. -/
def dats (_ : Fin 1) (c : Dev nD) : Dat τ (Elt F) Unit ℕ (UR sig nD τ) ℕ cfg0 c where
  A w := V m c (Pipeline.arrRef spec0 w)
  after w t := match w with
    | ⟨0, _⟩ => iblk m c 0 t
    | ⟨1, _⟩ => iblk m c 1 t
    | ⟨2, _⟩ => iblk m c 2 t
    | ⟨3, _⟩ => iblk m c 3 t
    | ⟨4, _⟩ => iblk m c 4 t
    | ⟨5, _⟩ => k0_pay2 (rows m c t) (iblk m c 2 t)
    | ⟨6, _⟩ => gates m c t
  Φ n := carried m c n.val
  q _ := fullShare
  owed _ := 0

/-- The arrays are the region-entry contents. -/
theorem A_eq (c : Dev nD) (w : Fin cfg0.W) : (dats m 0 c).A w = V m c (Pipeline.arrRef spec0 w) := by
  dsimp only [dats]

/-- Window 0 after point `t`. -/
theorem after0_0 (c : Dev nD) (t : Fin cfg0.N) : (dats m 0 c).after 0 t = iblk m c 0 t := by dsimp only [dats]
/-- Window 1 after point `t`. -/
theorem after0_1 (c : Dev nD) (t : Fin cfg0.N) : (dats m 0 c).after 1 t = iblk m c 1 t := by dsimp only [dats]
/-- Window 2 after point `t`. -/
theorem after0_2 (c : Dev nD) (t : Fin cfg0.N) : (dats m 0 c).after 2 t = iblk m c 2 t := by dsimp only [dats]
/-- Window 3 after point `t`. -/
theorem after0_3 (c : Dev nD) (t : Fin cfg0.N) : (dats m 0 c).after 3 t = iblk m c 3 t := by dsimp only [dats]
/-- Window 4 after point `t`. -/
theorem after0_4 (c : Dev nD) (t : Fin cfg0.N) : (dats m 0 c).after 4 t = iblk m c 4 t := by dsimp only [dats]
/-- Window 5 after point `t`. -/
theorem after0_5 (c : Dev nD) (t : Fin cfg0.N) : (dats m 0 c).after 5 t = k0_pay2 (rows m c t) (iblk m c 2 t) := by dsimp only [dats]
/-- Window 6 after point `t`. -/
theorem after0_6 (c : Dev nD) (t : Fin cfg0.N) : (dats m 0 c).after 6 t = gates m c t := by dsimp only [dats]
/-- Window 0's buffer holds its block whether fetched or not. -/
theorem before0_0 (c : Dev nD) (t : Fin cfg0.N) (d) : (dats m 0 c).before 0 t d = iblk m c 0 t :=
  before0_0_of m (dats m 0 c) (A_eq m c 0) (after0_0 m c) t d
/-- Window 1's buffer holds its block whether fetched or not. -/
theorem before0_1 (c : Dev nD) (t : Fin cfg0.N) (d) : (dats m 0 c).before 1 t d = iblk m c 1 t :=
  before0_1_of m (dats m 0 c) (A_eq m c 1) (after0_1 m c) t d
/-- Window 2's buffer holds its block whether fetched or not. -/
theorem before0_2 (c : Dev nD) (t : Fin cfg0.N) (d) : (dats m 0 c).before 2 t d = iblk m c 2 t :=
  before0_2_of m (dats m 0 c) (A_eq m c 2) (after0_2 m c) t d
/-- Window 3's buffer holds its block whether fetched or not. -/
theorem before0_3 (c : Dev nD) (t : Fin cfg0.N) (d) : (dats m 0 c).before 3 t d = iblk m c 3 t :=
  before0_3_of m (dats m 0 c) (A_eq m c 3) (after0_3 m c) t d
/-- Window 4's buffer holds its block whether fetched or not. -/
theorem before0_4 (c : Dev nD) (t : Fin cfg0.N) (d) : (dats m 0 c).before 4 t d = iblk m c 4 t :=
  before0_4_of m (dats m 0 c) (A_eq m c 4) (after0_4 m c) t d

/-- Inside a row block the gates' buffer holds what the block's first point stored. -/
theorem before0_6 (c : Dev nD) (d) : ∀ (n : ℕ) (h : n < cfg0.N), n % 13 ≠ 0 → (dats m 0 c).before 6 ⟨n, h⟩ d = gates m c ⟨n, h⟩ := by
  intro n
  induction n with
  | zero => intro h h0; exact absurd rfl h0
  | succ n ih =>
    intro h h0
    have hn : n < cfg0.N := Nat.lt_of_succ_lt h
    have hfl : (cfg0.win 6).flush ⟨n, hn⟩ = false := by
      rw [Bool.eq_false_iff]; intro hh; have := (flush0_6 ⟨n, hn⟩).mp hh; simp only at this; omega
    have hg : gates m c ⟨n, hn⟩ = gates m c ⟨n + 1, h⟩ := gates_congr m c _ _ (by simp only; omega)
    rw [(dats m 0 c).before_of_pos 6 ⟨n + 1, h⟩ (Nat.succ_ne_zero n) rfl d]
    show (if (cfg0.win 6).flush ⟨n, hn⟩ then d else (dats m 0 c).left 6 ⟨n, hn⟩ d) = _
    rw [hfl, if_neg Bool.false_ne_true]
    unfold Dat.left
    by_cases hz : n % 13 = 0
    · rw [show cfg0.idle 6 (cfg0.grid.coords ⟨n, hn⟩) = false from by
        rw [Bool.eq_false_iff]; intro hh; exact (idle6_iff ⟨n, hn⟩).mp hh hz]
      show (dats m 0 c).kept 6 ⟨n, hn⟩ d = _
      unfold Dat.kept
      rw [after0_6, hg]
      rfl
    · rw [show cfg0.idle 6 (cfg0.grid.coords ⟨n, hn⟩) = true from (idle6_iff ⟨n, hn⟩).mpr hz]
      show (dats m 0 c).before 6 ⟨n, hn⟩ d = _
      rw [ih hn hz, hg]

/-! ## The body at a point -/

/-- What the body is given at point `t`, -/
def bodyPre (c : Dev nD) (t : Fin cfg0.N) : sProp 𝕄 :=
  iprop((dats m 0 c).Φ t.castSucc ∗ (dats m 0 c).owesAt () t.castSucc
    ∗ (∃ d, owns (c : Thread nD τ) (ms0_0 t) fullShare ((dats m 0 c).before 0 t d))
    ∗ (∃ d, owns (c : Thread nD τ) (ms0_1 t) fullShare ((dats m 0 c).before 1 t d))
    ∗ (∃ d, owns (c : Thread nD τ) (ms0_2 t) fullShare ((dats m 0 c).before 2 t d))
    ∗ (∃ d, owns (c : Thread nD τ) (ms0_3 t) fullShare ((dats m 0 c).before 3 t d))
    ∗ (∃ d, owns (c : Thread nD τ) (ms0_4 t) fullShare ((dats m 0 c).before 4 t d))
    ∗ (∃ d, owns (c : Thread nD τ) (ms0_5 t) fullShare ((dats m 0 c).before 5 t d))
    ∗ (∃ d, owns (c : Thread nD τ) (ms0_6 t) fullShare ((dats m 0 c).before 6 t d)))

/-- and what it gives back. -/
def bodyPost (c : Dev nD) (t : Fin cfg0.N) : sProp 𝕄 :=
  iprop((dats m 0 c).Φ t.succ ∗ (dats m 0 c).owesAt () t.succ
    ∗ (dats m 0 c).leavesExact 0 t
    ∗ (dats m 0 c).leavesExact 1 t
    ∗ (dats m 0 c).leavesExact 2 t
    ∗ (dats m 0 c).leavesExact 3 t
    ∗ (dats m 0 c).leavesExact 4 t
    ∗ (dats m 0 c).leavesExact 5 t
    ∗ (dats m 0 c).leavesExact 6 t)

set_option maxHeartbeats 1600000 in
/-- The body at any point, by whether it is the first of its row block. -/
theorem sound_body (c : Dev nD) (t : Fin cfg0.N) :
    bodyPre m c t ⊢ wp frame (wpE (defs₀ (F := F)) Variants.none c none) Set.univ (bodyAt0 t) (fun _ => bodyPost m c t) := by
  unfold bodyPre bodyPost bodyAt0
  simp only [before0_0, before0_1, before0_2, before0_3, before0_4]
  rw [show (dats m 0 c).owesAt () t.succ = (dats m 0 c).owesAt () t.castSucc from rfl]
  rw [show (dats m 0 c).Φ t.castSucc = carried m c t.val from rfl, show (dats m 0 c).Φ t.succ = carried m c (t.val + 1) from rfl]
  rw [show (dats m 0 c).leavesExact 0 t = owns (c : Thread nD τ) (ms0_0 t) fullShare ((dats m 0 c).after 0 t) from by
    unfold Dat.leavesExact; rw [liveAt0_0 t], after0_0]
  rw [show (dats m 0 c).leavesExact 1 t = owns (c : Thread nD τ) (ms0_1 t) fullShare ((dats m 0 c).after 1 t) from by
    unfold Dat.leavesExact; rw [liveAt0_1 t], after0_1]
  rw [show (dats m 0 c).leavesExact 2 t = owns (c : Thread nD τ) (ms0_2 t) fullShare ((dats m 0 c).after 2 t) from by
    unfold Dat.leavesExact; rw [liveAt0_2 t], after0_2]
  rw [show (dats m 0 c).leavesExact 3 t = owns (c : Thread nD τ) (ms0_3 t) fullShare ((dats m 0 c).after 3 t) from by
    unfold Dat.leavesExact; rw [liveAt0_3 t], after0_3]
  rw [show (dats m 0 c).leavesExact 4 t = owns (c : Thread nD τ) (ms0_4 t) fullShare ((dats m 0 c).after 4 t) from by
    unfold Dat.leavesExact; rw [liveAt0_4 t], after0_4]
  rw [show (dats m 0 c).leavesExact 5 t = owns (c : Thread nD τ) (ms0_5 t) fullShare ((dats m 0 c).after 5 t) from by
    unfold Dat.leavesExact; rw [liveAt0_5 t], after0_5]
  by_cases h0 : t.val % 13 = 0
  · rw [show (dats m 0 c).leavesExact 6 t = owns (c : Thread nD τ) (ms0_6 t) fullShare ((dats m 0 c).after 6 t) from by
      unfold Dat.leavesExact
      rw [show cfg0.idle 6 (cfg0.grid.coords t) = false from by
        rw [Bool.eq_false_iff]; intro hh; exact (idle6_iff t).mp hh h0], after0_6]
    unfold carried
    iintro ⟨⟨⟨%X, -, HS0⟩, Hg⟩, Ho, ⟨%d0, H0⟩, ⟨%d1, H1⟩, ⟨%d2, H2⟩, ⟨%d3, H3⟩, ⟨%d4, H4⟩, ⟨%d5, H5⟩, ⟨%d6, H6⟩⟩
    iapply (runFirst c (grid0.coords t) _ _ _ _ _ _ _ _ _ _ _ _ _ _ _ _ ((first_iff t).mpr h0) (iblk m c 0 t) (iblk m c 1 t) (iblk m c 2 t) (iblk m c 3 t) (iblk m c 4 t) Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexists _; iexact H6
    isplitl [HS0]; · iexists _; iexact HS0
    iintro ⟨H0, H1, H2, H3, H4, H5, H6, HS0⟩
    isplitl [HS0 Hg]
    · isplitl [HS0]
      · iexists rows m c t; isplitr
        · ipureintro; intro h _; rfl
        iexact HS0
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    iexact H6
  · have hN : t.val - 1 < cfg0.N := Nat.lt_of_le_of_lt (Nat.sub_le _ _) t.isLt
    have hr : rows m c ⟨t.val - 1, hN⟩ = rows m c t := rows_congr m c _ _ (by show (t.val - 1) / 13 = t.val / 13; omega)
    have hb : ∀ d, (dats m 0 c).before 6 t d = gates m c t := fun d => before0_6 m c d t.val t.isLt h0
    simp only [hb]
    unfold carried
    iintro ⟨⟨⟨%X, %hX, HS0⟩, Hg⟩, Ho, ⟨%d0, H0⟩, ⟨%d1, H1⟩, ⟨%d2, H2⟩, ⟨%d3, H3⟩, ⟨%d4, H4⟩, ⟨%d5, H5⟩, ⟨%d6, H6⟩⟩
    obtain rfl : X = rows m c t := (hX hN h0).trans hr
    iapply (runLater c (grid0.coords t) _ _ _ _ _ _ _ _ _ _ _ _ _ _ _ _ (fun h => h0 ((first_iff t).mp h)) (iblk m c 0 t) (iblk m c 1 t) (iblk m c 2 t) (iblk m c 3 t) (iblk m c 4 t) (gates m c t) (rows m c t) Set.univ _)
    isplitl [H0]; · iexact H0
    isplitl [H1]; · iexact H1
    isplitl [H2]; · iexact H2
    isplitl [H3]; · iexact H3
    isplitl [H4]; · iexact H4
    isplitl [H5]; · iexists _; iexact H5
    isplitl [H6]; · iexact H6
    isplitl [HS0]; · iexact HS0
    iintro ⟨H0, H1, H2, H3, H4, H5, H6, HS0⟩
    isplitl [HS0 Hg]
    · isplitl [HS0]
      · iexists rows m c t; isplitr
        · ipureintro; intro h _; rfl
        iexact HS0
      iexact Hg
    isplitl [Ho]; · iexact Ho
    isplitl [H0]; · iexact H0
    isplitl [H1]; · iexact H1
    isplitl [H2]; · iexact H2
    isplitl [H3]; · iexact H3
    isplitl [H4]; · iexact H4
    isplitl [H5]; · iexact H5
    by_cases hf : (cfg0.win 6).flush t = true
    · rw [show (dats m 0 c).leavesExact 6 t = owns (c : Thread nD τ) (ms0_6 t) fullShare ((dats m 0 c).after 6 t) from by
        unfold Dat.leavesExact; rw [show cfg0.idle 6 (cfg0.grid.coords t) = true from (idle6_iff t).mpr h0, hf], after0_6]
      iexact H6
    · rw [(dats m 0 c).leavesExact_idle 6 t ((idle6_iff t).mpr h0) (Bool.eq_false_iff.mpr hf)]
      simp only [hb]
      iexists d6
      iexact H6

/-- The pipeline's call of the body at point `t`. -/
theorem defs₀_row (t : Fin cfg0.N) :
    defs₀ (F := F) .tc cfg0.body (cfg0.bodyArgs t (cfg0.slots t)) = bodyAt0 t := by
  unfold defs₀; rw [Defs.onTc_tc]

/-- The body keeps the proof data at every point. -/
theorem body_obligation (c : Dev nD) : BodyObligation (dats (F := F) m 0 c) (defs₀ (F := F)) Variants.none () Set.univ := fun t => by
  rw [bigSep_W0, bigSep_W0, defs₀_row]
  exact triple_restated (sound_body m c t) rfl .rfl fun _ => .rfl

/-! ## The run -/

/-- The region's scoped buffers and the generator register, the scratch buffer as a memref. -/
theorem PhiA0_eq (c : Dev nD) :
    (Pipeline.ΦA spec0 c : sProp 𝕄)
      = iprop(iprop((∃ d, owns (c : Thread nD τ) scM0_0 fullShare d)) ∗ (∃ r, prngReg c r)) := by
  unfold Pipeline.ΦA; rw [scopedRest0_eq]; simp only [scM0_0, owns_whole]; try rfl

/-- Before the first point the scratch buffer may hold anything. -/
theorem carried_in (c : Dev nD) : Pipeline.ΦA spec0 c ⊢ carried m c 0 := by
  rw [PhiA0_eq]; unfold carried
  iintro ⟨⟨%d, H⟩, Hg⟩
  isplitl [H]
  · iexists d; isplitr
    · ipureintro; intro _ h; exact absurd rfl h
    iexact H
  iexact Hg

/-- Afterwards what it holds is forgotten. -/
theorem carried_out (c : Dev nD) (n : ℕ) : carried m c n ⊢ Pipeline.ΦA spec0 c := by
  rw [PhiA0_eq]; unfold carried
  iintro ⟨⟨%d, -, H⟩, Hg⟩
  isplitl [H]
  · iexists d; iexact H
  iexact Hg

set_option backward.isDefEq.respectTransparency.types false in
/-- Every execution ends, each result's array at what the proof data say, every counter at zero. -/
theorem run_main_quiescent : θ_run defs (onTc (τ := τ) (main (F := F))) (s₀ m ρ) (fun r => Pipeline.FramePost cfgs (dats m) 0 (V m) r ∧ r.2.sem = fun _ => 0) :=
  Pipeline.θ_run_frame_track (Q' := _) cfgs (dats m) (0 : Fin 1) launch0 defs₀ Variants.none m ρ main
    (hbody := fun c => (body_obligation m c).loose) (hshare := fun c => (dats m 0 c).share_full fun _ => rfl)
    (howed := fun _ _ => rfl) (V := V m) (hmain := hmain m Variants.none) (hA := A_eq m)
    (hin := fun c => carried_in m c) (hout := fun c => carried_out m c _)

/-- The same without the counters. -/
theorem run_main : θ_run defs (onTc (τ := τ) (main (F := F))) (s₀ m ρ) (Pipeline.FramePost cfgs (dats m) 0 (V m)) :=
  (θ_run defs _ _).mono (fun _ h => h.1) (run_main_quiescent m ρ)

/-- The frame: every argument ends as it began and every counter at zero. -/
theorem frame : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) :=
  θ_run_and (frame_of m ρ (dats m) (A_eq m) (run_main m ρ)) ((θ_run defs _ _).mono (fun _ h => h.2) (run_main_quiescent m ρ))

end Cert.KernelIdeal.InProj

end
-- ==== Proof.SameText.lean ====
/- The input projection as printed and its ideal reading are one text under two names: what is proved of the second
   at any float values holds of the first at words. -/
module

public import proofs.«01_k».proof.Defs
public import proofs.«01_k».proof.Proof.Gen.Kernel
public import proofs.«01_k».proof.Proof.InProjFrame

@[expose] public section

set_option maxRecDepth 16384

noncomputable section

namespace Cert.Proof

open Idealize.ShloMosaic Idealize.ShloMosaic.TcCoe Idealize.SL.Sem

variable {F : FTy → Type} [FloatOps F]

/-- The two texts' body tables are one. -/
theorem bodies_eq : Cert.Kernel.defs₀ (F := F) = Cert.KernelIdeal.defs₀ (F := F) := by
  unfold Cert.Kernel.defs₀ Cert.KernelIdeal.defs₀
  refine congrArg Defs.onTc ?_
  funext l x
  match l with
  | ⟨0, _⟩ => rfl

/-- Hence their tables with the pipeline's labels. -/
theorem defs_eq : Cert.Kernel.defs (F := F) = Cert.KernelIdeal.defs (F := F) :=
  congrArg (Pipeline.defs Cert.KernelIdeal.pcfgs) bodies_eq

set_option maxHeartbeats 2000000 in
/-- Their host lines are one. -/
theorem main_eq : Cert.Kernel.main (F := F) = Cert.KernelIdeal.main (F := F) := funext fun _ => rfl

/-- The input projection as printed runs, leaves its arguments unchanged and its counters at zero. -/
theorem frame_kernel : Cert.quiescent_Kernel := fun m ρ _ => by
  have h := Cert.KernelIdeal.InProj.frame (F := Bits) m ρ
  rw [← defs_eq, ← main_eq] at h
  exact h

end Cert.Proof

end
-- ==== Proof.Scalars.lean ====
/- The layer's scalar functions at the ideal values: a row's normalisation, the softplus, and the four activations of
   the gates. Both the kernels and their references are read down to these. -/
module

public import Idealize.ShloMosaic.Lib.Pointwise

@[expose] public section

noncomputable section

namespace Cert.Scalars

open Idealize.ShloMosaic

/-- Entry `k` of the row `x`, divided by the root of the mean of its squares plus `1e-6` and weighted by `g`. -/
def normalised (x g : Fin 2048 → EReal) (k : Fin 2048) : EReal :=
  x k * Ideal.rsqrt (Ideal.div (∑ l, x l * x l) (Ideal.ofBits .f32 0x45000000#32) + Ideal.ofBits .f32 0x358637BD#32) * g k

/-- `log (1 + exp z)`, by the formula that does not overflow. -/
def softplus (z : EReal) : EReal := max z 0 + Ideal.log1p (Ideal.exp (-(FloatOps.absf (F := Ideal) (φ := .f32) z : EReal)))

/-- The activation of the gate of kind `k` at the pre-activation `z`; `a` is the logarithm of the decay's rate. -/
def activation (k : Fin 4) (z a : EReal) : EReal :=
  if k = 0 then Ideal.logistic z else if k = 1 then -Ideal.exp a * softplus z else if k = 2 then z else -softplus (-z)

/-- Entry `e` of a token after the layer: `x` is the token before it, `ya` and `yb` the two branches' outputs, `za` and
    `zb` their gates before the logistic function, `wa` and `wb` the branches' weights, `wo` the output weights. -/
def tokenAfter (x : Fin 2048 → EReal) (ya yb : Fin 1024 → EReal) (za zb : Fin 2048 → EReal) (wa wb : Fin 1024 → Fin 2048 → EReal)
    (wo : Fin 2048 → Fin 2048 → EReal) (e : Fin 2048) : EReal :=
  x e + ∑ d, (Ideal.logistic (za d) * ∑ k, ya k * wa k d + Ideal.logistic (zb d) * ∑ k, yb k * wb k d) * wo d e

end Cert.Scalars

end
-- ==== Proof.InProjEntry.lean ====
/- What the input projection's operands hold when its region is entered, at the ideal values: the host code reshapes
   the tokens, transposes the weights, and collects the gates' columns and their parameters head by head. -/
module

public import proofs.«01_k».proof.Proof.InProjFrame
public import proofs.«01_k».proof.Proof.Scalars

@[expose] public section

set_option maxRecDepth 16384

noncomputable section

namespace Cert.KernelIdeal.InProj

open Cert.KernelIdeal Cert.KernelIdeal.Gen Cert.Scalars
open Idealize.ShloMosaic Idealize.ShloMosaic.TcCoe Idealize.ShloMosaic.Tactic
open Idealize.SL.Sem

variable (m : (ℓ : Loc nD τ sig) → Buf (Elt Ideal) ℓ) (c : Dev nD)

/-- The program's arguments on a core: tokens, input weights, logarithms of the decays' rates, the gates' biases, and
    the norm's weights. -/
abbrev argX : FVec Ideal S2x4096x2048 .f32 := m ((c.tc : Thread nD τ).loc main_arg0)
abbrev argW : FVec Ideal S1x2048x13376 .f32 := m ((c.tc : Thread nD τ).loc main_arg1)
abbrev argA : FVec Ideal S1x2x8 .f32 := m ((c.tc : Thread nD τ).loc main_arg2)
abbrev argDt : FVec Ideal S1x2x8 .f32 := m ((c.tc : Thread nD τ).loc main_arg3)
abbrev argI : FVec Ideal S1x2x8 .f32 := m ((c.tc : Thread nD τ).loc main_arg4)
abbrev argF : FVec Ideal S1x2x8 .f32 := m ((c.tc : Thread nD τ).loc main_arg5)
abbrev argG : FVec Ideal S1x2048 .f32 := m ((c.tc : Thread nD τ).loc main_arg6)

/-- The tokens, both sequences' rows one after another. -/
theorem entry_tokens (r : Fin 8192) (l : Fin 2048) :
    V m c main_v0 (ix2 r l) = argX m c (ix3 ⟨r.val / 4096, by omega⟩ ⟨r.val % 4096, by omega⟩ l) := by
  simp only [V, List.flatten_cons, List.flatten_nil, hostOps0, hostOps0_1, hostOps0_2, hostOps0_3, hostOps0_4, List.cons_append, List.nil_append, List.append_nil]
  entry_read
  pointwise
/-- The norm's weights. -/
theorem entry_norm (l : Fin 2048) : V m c main_v34 (ix2 0 l) = argG m c (ix2 0 l) := by
  simp only [V, List.flatten_cons, List.flatten_nil, hostOps0, hostOps0_1, hostOps0_2, hostOps0_3, hostOps0_4, List.cons_append, List.nil_append, List.append_nil]
  entry_read
  pointwise

/-- The weights, transposed. -/
theorem entry_weights (o : Fin 13376) (l : Fin 2048) : V m c main_v2 (ix2 o l) = argW m c (ix3 0 l o) := by
  simp only [V, List.flatten_cons, List.flatten_nil, hostOps0, hostOps0_1, hostOps0_2, hostOps0_3, hostOps0_4, List.cons_append, List.nil_append, List.append_nil]
  entry_read
  pointwise

/-- Sixteen rows of the transposed weights. -/
def gateRows (W : FVec Ideal S1x2048x13376 .f32) (o : Fin 2 → ℕ) (h : S13376x2048.Slices o S16x2048) : FVec Ideal S16x2048 .f32 :=
  extractStridedSlice S16x2048 o (transpose S13376x2048 [1, 0] (shapeCast S2048x13376 W shapeCasts_S1x2048x13376_S2048x13376) transposes_S2048x13376_S13376x2048_1_0) h

/-- Four groups of sixteen rows, one a kind of gate. -/
def groupRows (W : FVec Ideal S1x2048x13376 .f32) : FVec Ideal S64x2048 .f32 :=
  concatenate S64x2048 0 [⟨S16x2048, gateRows W ![4096, 0] slices_S13376x2048_S16x2048_4096_0⟩, ⟨S16x2048, gateRows W ![4112, 0] slices_S13376x2048_S16x2048_4112_0⟩,
    ⟨S16x2048, gateRows W ![9248, 0] slices_S13376x2048_S16x2048_9248_0⟩, ⟨S16x2048, gateRows W ![9264, 0] slices_S13376x2048_S16x2048_9264_0⟩]
    concatenates_S16x2048_S16x2048_S16x2048_S16x2048_S64x2048_d0

/-- The groups' rows, head first. -/
def headRows (a : FVec Ideal S64x2048 .f32) : FVec Ideal S64x2048 .f32 :=
  shapeCast S64x2048 (transpose S8x4x2x2048 [2, 0, 1, 3] (shapeCast S4x2x8x2048 a shapeCasts_S64x2048_S4x2x8x2048) transposes_S4x2x8x2048_S8x4x2x2048_2_0_1_3) shapeCasts_S8x4x2x2048_S64x2048

/-- The rows below, whatever they are, are never used. -/
def padRows (a : FVec Ideal S64x2048 .f32) : FVec Ideal S128x2048 .f32 :=
  pad S128x2048 ![0, 0] ![64, 0] ![0, 0] a (sitofp .f32 (constantI S_ 32 0#32)) pads_S64x2048_S128x2048_0640_000 h_S_

-- the host code's term is long
set_option maxHeartbeats 2000000 in
/-- The gates' weights, when the region is entered. -/
theorem entry_gateWeights_eq : V m c main_v11 = padRows (headRows (groupRows (argW m c))) := by
  rfl

/-- An entry of a gate's rows. -/
theorem gateRows_at (W : FVec Ideal S1x2048x13376 .f32) (o : ℕ) (h : S13376x2048.Slices ![o, 0] S16x2048) (ho : o + 16 ≤ 13376) (q : Fin 16) (l : Fin 2048) :
    gateRows W ![o, 0] h (ix2 q l) = W (ix3 0 l ⟨o + q.val, by omega⟩) := by
  pointwise [gateRows]

/-- An entry of the groups' rows. -/
theorem groupRows_at (W : FVec Ideal S1x2048x13376 .f32) (k : Fin 4) (q : Fin 16) (l : Fin 2048) :
    groupRows W (ix2 ⟨16 * k.val + q.val, by omega⟩ l) = W (ix3 0 l ⟨![4096, 4112, 9248, 9264] k + q.val, by revert k q; decide⟩) := by
  fin_cases k <;> pointwise [groupRows, gateRows_at]
  all_goals split_ifs <;> first | omega | exact congrArg (fun j => W (ix3 0 l j)) (Fin.ext (by dsimp only; omega))

/-- The rows, head first. -/
theorem headRows_at (a : FVec Ideal S64x2048 .f32) (n : Fin 8) (k : Fin 4) (d : Fin 2) (l : Fin 2048) :
    headRows a (ix2 ⟨8 * n.val + (2 * k.val + d.val), by omega⟩ l) = a (ix2 ⟨16 * k.val + (d.val * 8 + n.val), by omega⟩ l) := by
  pointwise [headRows]
  exact congrArg (fun j => a (ix2 j l)) (Fin.ext (by dsimp only; omega))

/-- The rows above the padding. -/
theorem padRows_at (a : FVec Ideal S64x2048 .f32) (q : Fin 64) (l : Fin 2048) :
    padRows a (ix2 ⟨q.val, by omega⟩ l) = a (ix2 q l) := by
  pointwise [padRows]

/-- The weights of head `n`'s gate of kind `k` and direction `d` are the input weights' gate column. -/
theorem entry_gateWeights (n : Fin 8) (k : Fin 4) (d : Fin 2) (l : Fin 2048) :
    V m c main_v11 (ix2 ⟨8 * n.val + (2 * k.val + d.val), by omega⟩ l)
      = argW m c (ix3 0 l ⟨![4096, 4112, 9248, 9264] k + (d.val * 8 + n.val), by revert k d n; decide⟩) := by
  rw [entry_gateWeights_eq]
  exact (padRows_at _ ⟨8 * n.val + (2 * k.val + d.val), by omega⟩ l).trans ((headRows_at _ n k d l).trans
    (groupRows_at _ k ⟨d.val * 8 + n.val, by omega⟩ l))

/-- One direction's and head's parameter each, as one line. -/
def flat (b : FVec Ideal S1x2x8 .f32) : FVec Ideal S16 .f32 :=
  shapeCast S16 (shapeCast S2x8 b shapeCasts_S1x2x8_S2x8) shapeCasts_S2x8_S16

/-- A kind of gate without a parameter. -/
def zeros : FVec Ideal S16 .f32 := broadcastInDim S16 ![] bcast_S_S16 (constant S_ .f32 0x00000000#32)

/-- The four kinds' parameters, one after another. -/
def group (a b d e : FVec Ideal S16 .f32) : FVec Ideal S64 .f32 :=
  concatenate S64 0 [⟨S16, a⟩, ⟨S16, b⟩, ⟨S16, d⟩, ⟨S16, e⟩] concatenates_S16_S16_S16_S16_S64_d0

/-- The parameters, head first. -/
def headFirst (a : FVec Ideal S64 .f32) : FVec Ideal S64 .f32 :=
  shapeCast S64 (transpose S8x4x2 [2, 0, 1] (shapeCast S4x2x8 a shapeCasts_S64_S4x2x8) transposes_S4x2x8_S8x4x2_2_0_1) shapeCasts_S8x4x2_S64

/-- Two lines of parameters, one under the other, padded. -/
def stack (a b : FVec Ideal S64 .f32) : FVec Ideal S2x128 .f32 :=
  pad S2x128 ![0, 0] ![0, 64] ![0, 0]
    (concatenate S2x64 0 [⟨S1x64, broadcastInDim S1x64 ![1] bcast_S64_S1x64_1 a⟩, ⟨S1x64, broadcastInDim S1x64 ![1] bcast_S64_S1x64_1 b⟩] concatenates_S1x64_S1x64_S2x64_d0)
    (sitofp .f32 (constantI S_ 32 0#32)) pads_S2x64_S2x128_000_0640 h_S_

-- the host code's term is long
set_option maxHeartbeats 2000000 in
/-- The gates' parameters, when the region is entered. -/
theorem entry_gateParams_eq : V m c main_v32
    = stack (headFirst (group zeros (flat (argA m c)) zeros zeros)) (headFirst (group zeros (flat (argDt m c)) (flat (argI m c)) (flat (argF m c)))) := by
  rfl

/-- An entry of a line of parameters. -/
theorem flat_at (b : FVec Ideal S1x2x8 .f32) (d : Fin 2) (n : Fin 8) : flat b (ix1 ⟨d.val * 8 + n.val, by omega⟩) = b (ix3 0 d n) := by
  pointwise [flat]

/-- An absent parameter is zero. -/
theorem zeros_at (q : Fin 16) : zeros (ix1 q) = 0 := by
  pointwise [zeros]

/-- An entry of the four lines. -/
theorem group_at (a b d e : FVec Ideal S16 .f32) (k : Fin 4) (q : Fin 16) :
    group a b d e (ix1 ⟨16 * k.val + q.val, by omega⟩) = (![a, b, d, e] k) (ix1 q) := by
  fin_cases k <;> pointwise [group]
  · split_ifs <;> first | omega | exact congrArg (fun j => d (ix1 j)) (Fin.ext (by dsimp only; omega))
  · split_ifs <;> first | omega | exact congrArg (fun j => e (ix1 j)) (Fin.ext (by dsimp only; omega))

/-- The parameters, head first. -/
theorem headFirst_at (a : FVec Ideal S64 .f32) (n : Fin 8) (k : Fin 4) (d : Fin 2) :
    headFirst a (ix1 ⟨8 * n.val + (2 * k.val + d.val), by omega⟩) = a (ix1 ⟨16 * k.val + (d.val * 8 + n.val), by omega⟩) := by
  pointwise [headFirst]
  exact congrArg (fun j => a (ix1 j)) (Fin.ext (by dsimp only; omega))

/-- The first line. -/
theorem stack_at0 (a b : FVec Ideal S64 .f32) (q : Fin 64) : stack a b (ix2 0 ⟨q.val, by omega⟩) = a (ix1 q) := by
  pointwise [stack]

/-- The second line. -/
theorem stack_at1 (a b : FVec Ideal S64 .f32) (q : Fin 64) : stack a b (ix2 1 ⟨q.val, by omega⟩) = b (ix1 q) := by
  pointwise [stack]

/-- The bias of head `n`'s gate of kind `k` and direction `d`: the write strength has none. -/
theorem entry_gateBias (n : Fin 8) (k : Fin 4) (d : Fin 2) :
    V m c main_v32 (ix2 1 ⟨8 * n.val + (2 * k.val + d.val), by omega⟩)
      = ![0, argDt m c (ix3 0 d n), argI m c (ix3 0 d n), argF m c (ix3 0 d n)] k := by
  rw [entry_gateParams_eq]
  refine (stack_at1 _ _ ⟨8 * n.val + (2 * k.val + d.val), by omega⟩).trans ((headFirst_at _ n k d).trans
    ((group_at _ _ _ _ k ⟨d.val * 8 + n.val, by omega⟩).trans ?_))
  fin_cases k
  · exact zeros_at ⟨d.val * 8 + n.val, by omega⟩
  · exact flat_at _ d n
  · exact flat_at _ d n
  · exact flat_at _ d n

/-- The logarithm of the decay's rate of head `n` and direction `d`. -/
theorem entry_gateRate (n : Fin 8) (d : Fin 2) :
    V m c main_v32 (ix2 0 ⟨8 * n.val + (2 * 1 + d.val), by omega⟩) = argA m c (ix3 0 d n) := by
  rw [entry_gateParams_eq]
  refine (stack_at0 _ _ ⟨8 * n.val + (2 * 1 + d.val), by omega⟩).trans ((headFirst_at _ n 1 d).trans
    ((group_at zeros (flat (argA m c)) zeros zeros 1 ⟨d.val * 8 + n.val, by omega⟩).trans ?_))
  exact flat_at _ d n

end Cert.KernelIdeal.InProj

end
-- ==== Proof.RefForms.lean ====
/- The input projection's reference, read entry by entry: its projections' array is a permutation of the columns of
   one product, and its gates' array holds that product's gate columns, biased and activated. -/
module

public import proofs.«01_k».proof.Proof.Gen.ReferenceIdeal.Run
public import proofs.«01_k».proof.Proof.Scalars

@[expose] public section

set_option maxRecDepth 16384

noncomputable section

namespace Cert.ReferenceIdeal.Forms

open Cert.ReferenceIdeal Cert.ReferenceIdeal.Gen Cert.Scalars
open Idealize.ShloMosaic Idealize.ShloMosaic.TcCoe Idealize.SL.Sem

/-- The tokens' rows, normalised. -/
def normed (X : FVec Ideal S2x4096x2048 .f32) (g : FVec Ideal S1x2048 .f32) : FVec Ideal S2x4096x2048 .f32 :=
  mulf (mulf X (broadcastInDim S2x4096x2048 ![0, 1, 2] bcast_S2x4096x1_S2x4096x2048_0_1_2 (Host.rsqrt (addf (Host.divf (broadcastInDim S2x4096x1 ![0, 1] bcast_S2x4096_S2x4096x1_0_1 (Host.reduceAdd (mulf X X) (constant S_ .f32 0x00000000#32) reducesTo_S2x4096x2048_S2x4096_d2 h_S_)) (broadcastInDim S2x4096x1 ![] bcast_S_S2x4096x1 (constant S_ .f32 0x45000000#32))) (broadcastInDim S2x4096x1 ![] bcast_S_S2x4096x1 (constant S_ .f32 0x358637BD#32)))))) (broadcastInDim S2x4096x2048 ![0, 1, 2] bcast_S1x1x2048_S2x4096x2048_0_1_2 (broadcastInDim S1x1x2048 ![2] bcast_S2048_S1x1x2048_2 (shapeCast _ g shapeCasts_S1x2048_S2048)))

/-- The product of the normalised rows and the whole input weights. -/
def projected (X : FVec Ideal S2x4096x2048 .f32) (W : FVec Ideal S1x2048x13376 .f32) (g : FVec Ideal S1x2048 .f32) : FVec Ideal S2x4096x13376 .f32 :=
  Host.dotGeneral dot_S2x4096x2048_S2048x13376_S2x4096x13376_2_0_01_1_n_n none (normed X g) (shapeCast _ W shapeCasts_S1x2048x13376_S2048x13376)

/-- Sixteen gate columns of a product, direction and head first. -/
def byHead (o : ℕ) (h : S2x4096x13376.Slices ![0, 0, o] S2x4096x16) (P : FVec Ideal S2x4096x13376 .f32) : FVec Ideal S2x2x8x4096 .f32 :=
  transpose S2x2x8x4096 [2, 0, 3, 1] (shapeCast S2x4096x2x8 (extractStridedSlice S2x4096x16 ![0, 0, o] P h) shapeCasts_S2x4096x16_S2x4096x2x8) transposes_S2x4096x2x8_S2x2x8x4096_2_0_3_1

/-- A bias of each direction and head, the same at every token. -/
def overTokens (b : FVec Ideal S1x2x8 .f32) : FVec Ideal S2x2x8x4096 .f32 :=
  broadcastInDim S2x2x8x4096 ![0, 1, 2, 3] bcast_S2x1x8x1_S2x2x8x4096_0_1_2_3 (broadcastInDim S2x1x8x1 ![0, 2] bcast_S2x8_S2x1x8x1_0_2 (shapeCast S2x8 b shapeCasts_S1x2x8_S2x8))

/-- The softplus of an array. -/
def softplusV (z : FVec Ideal S2x2x8x4096 .f32) : FVec Ideal S2x2x8x4096 .f32 :=
  select (cmpf .une (subf z (broadcastInDim S2x2x8x4096 ![] bcast_S_S2x2x8x4096 (constant S_ .f32 0x00000000#32))) (subf z (broadcastInDim S2x2x8x4096 ![] bcast_S_S2x2x8x4096 (constant S_ .f32 0x00000000#32)))) (addf z (broadcastInDim S2x2x8x4096 ![] bcast_S_S2x2x8x4096 (constant S_ .f32 0x00000000#32))) (addf (maximumf z (broadcastInDim S2x2x8x4096 ![] bcast_S_S2x2x8x4096 (constant S_ .f32 0x00000000#32))) (Host.log1p (Host.exp (Host.negf (Host.absf (subf z (broadcastInDim S2x2x8x4096 ![] bcast_S_S2x2x8x4096 (constant S_ .f32 0x00000000#32))))))))

/-- The logistic function of an array. -/
def sigmoidV (z : FVec Ideal S2x2x8x4096 .f32) : FVec Ideal S2x2x8x4096 .f32 :=
  Host.divf (broadcastInDim S2x2x8x4096 ![] bcast_S_S2x2x8x4096 (constant S_ .f32 0x3F800000#32)) (addf (broadcastInDim S2x2x8x4096 ![] bcast_S_S2x2x8x4096 (constant S_ .f32 0x3F800000#32)) (Host.exp (Host.negf z)))

/-- The projections' array, from the product. -/
def projections (P : FVec Ideal S2x4096x13376 .f32) : FVec Ideal S8192x13312 .bf16 :=
  truncf .bf16 (shapeCast _ ((concatenate S2x4096x13312 2 [⟨S2x4096x4096, ((extractStridedSlice S2x4096x4096 ![0, 0, 9280] P slices_S2x4096x13376_S2x4096x4096_0_0_9280) : FVec Ideal S2x4096x4096 .f32)⟩, ⟨S2x4096x3072, ((extractStridedSlice S2x4096x3072 ![0, 0, 0] P slices_S2x4096x13376_S2x4096x3072_0_0_0) : FVec Ideal S2x4096x3072 .f32)⟩, ⟨S2x4096x1024, ((extractStridedSlice S2x4096x1024 ![0, 0, 3072] P slices_S2x4096x13376_S2x4096x1024_0_0_3072) : FVec Ideal S2x4096x1024 .f32)⟩, ⟨S2x4096x2048, ((extractStridedSlice S2x4096x2048 ![0, 0, 4128] P slices_S2x4096x13376_S2x4096x2048_0_0_4128) : FVec Ideal S2x4096x2048 .f32)⟩, ⟨S2x4096x1024, ((extractStridedSlice S2x4096x1024 ![0, 0, 6176] P slices_S2x4096x13376_S2x4096x1024_0_0_6176) : FVec Ideal S2x4096x1024 .f32)⟩, ⟨S2x4096x1024, ((extractStridedSlice S2x4096x1024 ![0, 0, 7200] P slices_S2x4096x13376_S2x4096x1024_0_0_7200) : FVec Ideal S2x4096x1024 .f32)⟩, ⟨S2x4096x1024, ((extractStridedSlice S2x4096x1024 ![0, 0, 8224] P slices_S2x4096x13376_S2x4096x1024_0_0_8224) : FVec Ideal S2x4096x1024 .f32)⟩] concatenates_S2x4096x4096_S2x4096x3072_S2x4096x1024_S2x4096x2048_S2x4096x1024_S2x4096x1024_S2x4096x1024_S2x4096x13312_d2 : FVec Ideal S2x4096x13312 .f32)) shapeCasts_S2x4096x13312_S8192x13312) bitsLt_bf16_f32

/-- The gates' array, from the product. -/
def gateArray (P : FVec Ideal S2x4096x13376 .f32) (al dt ib fb : FVec Ideal S1x2x8 .f32) : FVec Ideal S2x8x4096x8 .f32 :=
  shapeCast _ (transpose S2x8x4096x4x2 [2, 3, 4, 0, 1] ((concatenate S4x2x2x8x4096 0 [⟨S1x2x2x8x4096, ((broadcastInDim S1x2x2x8x4096 ![1, 2, 3, 4] bcast_S2x2x8x4096_S1x2x2x8x4096_1_2_3_4 (sigmoidV (byHead 4096 slices_S2x4096x13376_S2x4096x16_0_0_4096 P))) : FVec Ideal S1x2x2x8x4096 .f32)⟩, ⟨S1x2x2x8x4096, ((broadcastInDim S1x2x2x8x4096 ![1, 2, 3, 4] bcast_S2x2x8x4096_S1x2x2x8x4096_1_2_3_4 (mulf (broadcastInDim S2x2x8x4096 ![0, 1, 2, 3] bcast_S2x1x8x1_S2x2x8x4096_0_1_2_3 (Host.negf (broadcastInDim S2x1x8x1 ![0, 2] bcast_S2x8_S2x1x8x1_0_2 (Host.exp (shapeCast _ al shapeCasts_S1x2x8_S2x8))))) (softplusV (addf (byHead 4112 slices_S2x4096x13376_S2x4096x16_0_0_4112 P) (overTokens dt))))) : FVec Ideal S1x2x2x8x4096 .f32)⟩, ⟨S1x2x2x8x4096, ((broadcastInDim S1x2x2x8x4096 ![1, 2, 3, 4] bcast_S2x2x8x4096_S1x2x2x8x4096_1_2_3_4 (addf (byHead 9248 slices_S2x4096x13376_S2x4096x16_0_0_9248 P) (overTokens ib))) : FVec Ideal S1x2x2x8x4096 .f32)⟩, ⟨S1x2x2x8x4096, ((broadcastInDim S1x2x2x8x4096 ![1, 2, 3, 4] bcast_S2x2x8x4096_S1x2x2x8x4096_1_2_3_4 (Host.negf (softplusV (Host.negf (addf (byHead 9264 slices_S2x4096x13376_S2x4096x16_0_0_9264 P) (overTokens fb)))))) : FVec Ideal S1x2x2x8x4096 .f32)⟩] concatenates_S1x2x2x8x4096_S1x2x2x8x4096_S1x2x2x8x4096_S1x2x2x8x4096_S4x2x2x8x4096_d0 : FVec Ideal S4x2x2x8x4096 .f32)) transposes_S4x2x2x8x4096_S2x8x4096x4x2_2_3_4_0_1) shapeCasts_S2x8x4096x4x2_S2x8x4096x8

variable (m : (ℓ : Loc nD τ sig) → Buf (Elt Ideal) ℓ) (c : Dev nD)

/-- The first result is the projections' array. -/
theorem out0_eq : Value.res_out0 m c = projections (projected (m ((c.tc : Thread nD τ).loc main_arg0)) (m ((c.tc : Thread nD τ).loc main_arg1)) (m ((c.tc : Thread nD τ).loc main_arg6))) := rfl

/-- The second result is the gates' array. -/
theorem out1_eq : Value.res_out1 m c = gateArray (projected (m ((c.tc : Thread nD τ).loc main_arg0)) (m ((c.tc : Thread nD τ).loc main_arg1)) (m ((c.tc : Thread nD τ).loc main_arg6)))
    (m ((c.tc : Thread nD τ).loc main_arg2)) (m ((c.tc : Thread nD τ).loc main_arg3)) (m ((c.tc : Thread nD τ).loc main_arg4)) (m ((c.tc : Thread nD τ).loc main_arg5)) := rfl

/-- An entry of the normalised rows. -/
theorem normed_at (X : FVec Ideal S2x4096x2048 .f32) (g : FVec Ideal S1x2048 .f32) (b : Fin 2) (t : Fin 4096) (k : Fin 2048) :
    normed X g (ix3 b t k) = normalised (fun l => X (ix3 b t l)) (fun l => g (ix2 0 l)) k := by
  pointwise [normed, normalised]

/-- An entry of the product: a token's normalised row against a column of the weights. -/
theorem projected_at (X : FVec Ideal S2x4096x2048 .f32) (W : FVec Ideal S1x2048x13376 .f32) (g : FVec Ideal S1x2048 .f32) (b : Fin 2) (t : Fin 4096) (o : Fin 13376) :
    projected X W g (ix3 b t o) = ∑ k : Fin 2048, normalised (fun l => X (ix3 b t l)) (fun l => g (ix2 0 l)) k * W (ix3 0 k o) := by
  pointwise [projected, normed_at]

/-- The product's column that is column `o` of the projections' array: the branch gates' columns come first, and the
    recurrences' gate columns are left out. -/
def source (o : ℕ) : ℕ := if o < 4096 then o + 9280 else if o < 8192 then o - 4096 else o - 4064

/-- It is a column of the product. -/
theorem source_lt (o : ℕ) (h : o < 13312) : source o < 13376 := by
  unfold source; split_ifs <;> omega

/-- An entry of the projections' array. -/
theorem projections_at (P : FVec Ideal S2x4096x13376 .f32) (r : Fin 8192) (o : Fin 13312) :
    projections P (ix2 r o) = P (ix3 ⟨r.val / 4096, by omega⟩ ⟨r.val % 4096, by omega⟩ ⟨source o.val, source_lt o.val o.isLt⟩) := by
  unfold source
  pointwise [projections]
  split_ifs <;> first | omega | exact congrArg (fun q => P (ix3 _ _ q)) (Fin.ext (by dsimp only; first | omega | (split_ifs <;> omega)))

/-- An entry of a gate's columns, direction and head first. -/
theorem byHead_at (o : ℕ) (h : S2x4096x13376.Slices ![0, 0, o] S2x4096x16) (ho : o + 16 ≤ 13376) (P : FVec Ideal S2x4096x13376 .f32)
    (d : Fin 2) (b : Fin 2) (n : Fin 8) (t : Fin 4096) :
    byHead o h P (ix4 d b n t) = P (ix3 b t ⟨o + (d.val * 8 + n.val), by omega⟩) := by
  pointwise [byHead]

/-- A bias at a token. -/
theorem overTokens_at (v : FVec Ideal S1x2x8 .f32) (d : Fin 2) (b : Fin 2) (n : Fin 8) (t : Fin 4096) :
    overTokens v (ix4 d b n t) = v (ix3 0 d n) := by
  pointwise [overTokens]

/-- The array's softplus, entry by entry. -/
theorem softplusV_at (z : FVec Ideal S2x2x8x4096 .f32) (i : S2x2x8x4096.Idx) : softplusV z i = softplus (z i) := by
  pointwise [softplusV, softplus]
  exact if_neg (fun h => h rfl)

/-- The array's logistic function, entry by entry. -/
theorem sigmoidV_at (z : FVec Ideal S2x2x8x4096 .f32) (i : S2x2x8x4096.Idx) : sigmoidV z i = Ideal.logistic (z i) := by
  pointwise [sigmoidV]
  rfl

/-- The product's first column of each kind of gate. -/
def gateColumn (k : Fin 4) : ℕ := ![4096, 4112, 9248, 9264] k

/-- A gate's columns are the product's. -/
theorem gateColumn_lt (k : Fin 4) (d : Fin 2) (n : Fin 8) : gateColumn k + (d.val * 8 + n.val) < 13376 := by
  revert k d n; decide

/-- The bias of each kind of gate: the write strength has none. -/
def gateBias (k : Fin 4) (dt ib fb : EReal) : EReal := ![0, dt, ib, fb] k

/-- An entry of the gates' array: the gate's column, biased and activated. -/
theorem gateArray_at (P : FVec Ideal S2x4096x13376 .f32) (al dt ib fb : FVec Ideal S1x2x8 .f32)
    (b : Fin 2) (n : Fin 8) (t : Fin 4096) (k : Fin 4) (d : Fin 2) :
    gateArray P al dt ib fb (ix4 b n t ⟨2 * k.val + d.val, by omega⟩)
      = activation k (P (ix3 b t ⟨gateColumn k + (d.val * 8 + n.val), gateColumn_lt k d n⟩)
          + gateBias k (dt (ix3 0 d n)) (ib (ix3 0 d n)) (fb (ix3 0 d n))) (al (ix3 0 d n)) := by
  fin_cases k <;> fin_cases d
  all_goals pointwise [gateArray, byHead_at, overTokens_at, softplusV_at, sigmoidV_at, activation, gateBias, gateColumn]

end Cert.ReferenceIdeal.Forms

end
-- ==== Proof.InProjValue.lean ====
/- What the input projection computes, at the ideal values: block by block its two results are the reference's. -/
module

public import proofs.«01_k».proof.Proof.InProjEntry
public import proofs.«01_k».proof.Proof.RefForms

@[expose] public section

set_option maxRecDepth 16384

noncomputable section

namespace Cert.KernelIdeal.InProj

open Cert.KernelIdeal Cert.KernelIdeal.Gen Cert.Scalars
open Cert.ReferenceIdeal.Forms (source source_lt gateColumn gateColumn_lt gateBias projected projections gateArray projected_at projections_at gateArray_at)
open Idealize.ShloMosaic Idealize.ShloMosaic.TcCoe Idealize.ShloMosaic.Tactic
open Idealize.SL.Sem

/-! ## The body's values -/

/-- An entry of the normalised rows. -/
theorem pay3_at (x0 : Vec Ideal S1024x2048 .f32) (x1 : Vec Ideal S1x2048 .f32) (r : Fin 1024) (k : Fin 2048) :
    k0_pay3 x0 x1 (ix2 r k) = normalised (fun l => x0 (ix2 r l)) (fun l => x1 (ix2 0 l)) k := by
  pointwise [k0_pay3, normalised]

/-- An entry of the projection's tile. -/
theorem pay2_at (y : Vec Ideal S1024x2048 .bf16) (w : Vec Ideal S1024x2048 .f32) (r : Fin 1024) (o : Fin 1024) :
    k0_pay2 y w (ix2 r o) = ∑ k : Fin 2048, y (ix2 r k) * w (ix2 o k) := by
  pointwise [k0_pay2]

/-- The kind of gate a column holds. -/
theorem kind_at (n : Fin 8) (k : Fin 4) (d : Fin 2) :
    IntOp.shrui .vector (IntOp.andi (BitVec.ofNat 32 (8 * n.val + (2 * k.val + d.val))) 7#32) 1#32 = BitVec.ofNat 32 k.val := by
  revert n k d; decide

/-- An entry of the gates' columns: the product, biased and activated by the column's kind. -/
theorem gateCols_at (x0 : Vec Ideal S1024x2048 .f32) (x1 : Vec Ideal S1x2048 .f32) (x3 : Vec Ideal S128x2048 .f32) (x4 : Vec Ideal S2x128 .f32)
    (r : Fin 1024) (q : Fin 128) (k : Fin 4)
    (hk : IntOp.shrui .vector (IntOp.andi (BitVec.ofNat 32 q.val) 7#32) 1#32 = BitVec.ofNat 32 k.val) :
    gateCols x0 x1 x3 x4 (ix2 r q)
      = activation k (∑ l : Fin 2048, k0_pay3 x0 x1 (ix2 r l) * x3 (ix2 q l) + x4 (ix2 1 q)) (x4 (ix2 0 q)) := by
  pointwise [gateCols, k0_pay8, k0_pay4, k0_pay5, k0_pay6, k0_pay7, row0, row1, activation, softplus, hk]
  simp only [zero_sub, ne_eq, not_true_eq_false, if_false]
  fin_cases k <;> rfl

/-! ## The blocks -/

variable (m : (ℓ : Loc nD τ sig) → Buf (Elt Ideal) ℓ) (c : Dev nD)

/-- The weights' block at a point starts at the source row of its first column. -/
theorem index2 : ∀ t : Fin cfg0.N, win0_2.index t = ![source (1024 * (t.val % 13)), 0] :=
  (by decide +kernel : ∀ t : Fin grid0.N, win0_2.index t = ![source (1024 * (t.val % 13)), 0])
/-- The projection's blocks go by row block and column block. -/
theorem index5 : ∀ t : Fin cfg0.N, win0_5.index t = ![t.val / 13, t.val % 13] :=
  (by decide +kernel : ∀ t : Fin grid0.N, win0_5.index t = ![t.val / 13, t.val % 13])
/-- The gates' blocks go by sequence and row block. -/
theorem index6 : ∀ t : Fin cfg0.N, win0_6.index t = ![t.val / 52, 0, t.val / 13 % 4, 0] :=
  (by decide +kernel : ∀ t : Fin grid0.N, win0_6.index t = ![t.val / 52, 0, t.val / 13 % 4, 0])

/-- There are 104 points. -/
theorem point_lt (t : Fin cfg0.N) : t.val < 104 := t.isLt

/-- The tokens' block. -/
theorem iblk0_at (t : Fin cfg0.N) (r : Fin 1024) (l : Fin 2048) :
    iblk m c 0 t (ix2 r l) = V m c main_v0 (ix2 ⟨1024 * (t.val / 13) + r.val, by have := point_lt t; omega⟩ l) := by
  unfold iblk
  refine congrArg (V m c main_v0) (?_ : ((cfg0.win 0).blk t).view.emb (ix2 r l) = _)
  blk_ext [index0]
/-- The norm's weights. -/
theorem iblk1_at (t : Fin cfg0.N) (l : Fin 2048) : iblk m c 1 t (ix2 0 l) = V m c main_v34 (ix2 0 l) := by
  unfold iblk
  refine congrArg (V m c main_v34) (?_ : ((cfg0.win 1).blk t).view.emb (ix2 0 l) = _)
  blk_ext [index1]
/-- The weights' block, wherever it starts. -/
theorem iblk2_at (t : Fin cfg0.N) (o : Fin 1024) (l : Fin 2048) (s : ℕ) (hs : win0_2.index t 0 = s) (h : s + o.val < 13376) :
    iblk m c 2 t (ix2 o l) = V m c main_v2 (ix2 ⟨s + o.val, h⟩ l) := by
  unfold iblk
  refine congrArg (V m c main_v2) (?_ : ((cfg0.win 2).blk t).view.emb (ix2 o l) = _)
  funext a
  refine Fin.ext ?_
  fin_cases a
  · show win0_2.index t 0 + 1 * o.val = s + o.val
    rw [hs, one_mul]
  · show win0_2.index t 1 + 1 * l.val = l.val
    rw [index2, one_mul]
    exact Nat.zero_add _
/-- The gates' weights. -/
theorem iblk3_at (t : Fin cfg0.N) (q : Fin 128) (l : Fin 2048) : iblk m c 3 t (ix2 q l) = V m c main_v11 (ix2 q l) := by
  unfold iblk
  refine congrArg (V m c main_v11) (?_ : ((cfg0.win 3).blk t).view.emb (ix2 q l) = _)
  blk_ext [index3]
/-- The gates' parameters. -/
theorem iblk4_at (t : Fin cfg0.N) (a : Fin 2) (q : Fin 128) : iblk m c 4 t (ix2 a q) = V m c main_v32 (ix2 a q) := by
  unfold iblk
  refine congrArg (V m c main_v32) (?_ : ((cfg0.win 4).blk t).view.emb (ix2 a q) = _)
  blk_ext [index4]

/-- A point's normalised rows are the tokens', normalised. -/
theorem rows_at (t : Fin cfg0.N) (r : Fin 1024) (k : Fin 2048) (R : Fin 8192) (hR : R.val = 1024 * (t.val / 13) + r.val) :
    rows m c t (ix2 r k) = normalised (fun l => argX m c (ix3 ⟨R.val / 4096, by omega⟩ ⟨R.val % 4096, by omega⟩ l)) (fun l => argG m c (ix2 0 l)) k := by
  obtain ⟨R, hlt⟩ := R
  obtain rfl : R = _ := hR
  refine (pay3_at _ _ r k).trans (congrArg₂ (fun f g => normalised f g k) (funext fun l => ?_) (funext fun l => ?_))
  · exact (iblk0_at m c t r l).trans (entry_tokens m c _ l)
  · exact (iblk1_at m c t l).trans (entry_norm m c l)

/-- A block's columns are consecutive in the product. -/
theorem source_add (j o : ℕ) (ho : o < 1024) : source (1024 * j) + o = source (1024 * j + o) := by
  unfold source; split_ifs <;> omega

/-- The projection's tile at a point is the reference's. -/
theorem tile_at (t : Fin cfg0.N) (r : Fin 1024) (o : Fin 1024) (R : Fin 8192) (hR : R.val = 1024 * (t.val / 13) + r.val)
    (O : Fin 13312) (hO : O.val = 1024 * (t.val % 13) + o.val) :
    k0_pay2 (rows m c t) (iblk m c 2 t) (ix2 r o) = projections (projected (argX m c) (argW m c) (argG m c)) (ix2 R O) := by
  have hs : source (1024 * (t.val % 13)) + o.val = source O.val := by rw [source_add _ _ o.isLt, hO]
  have hlt : source (1024 * (t.val % 13)) + o.val < 13376 := hs ▸ source_lt O.val O.isLt
  rw [pay2_at, projections_at, projected_at]
  refine Finset.sum_congr rfl fun k _ => congrArg₂ (· * ·) (rows_at m c t r k R hR) ?_
  refine (iblk2_at m c t o k _ (by rw [index2]; rfl) hlt).trans ((entry_weights m c _ k).trans ?_)
  exact congrArg (fun q => argW m c (ix3 0 k q)) (Fin.ext hs)

/-- The projections' array, when the launch ends, is the reference's. -/
theorem final5 : (dats m 0 c).arrAt 5 cfg0.N = projections (projected (argX m c) (argW m c) (argG m c)) := by
  refine (dats m 0 c).arrAt_eq_of_covers 5 _ (by decide +kernel) fun t hf y => ?_
  blk_simp
  rw [after0_5]
  have ht := point_lt t
  obtain ⟨r, o, rfl⟩ : ∃ (r : Fin 1024) (o : Fin 1024), y = ix2 r o := ⟨y 0, y 1, by funext a; fin_cases a <;> rfl⟩
  refine (tile_at m c t r o ⟨1024 * (t.val / 13) + r.val, by omega⟩ rfl ⟨1024 * (t.val % 13) + o.val, by omega⟩ rfl).trans ?_
  refine congrArg (projections _) ?_
  blk_ext [index5]

/-- The gates' columns at a point are the reference's. -/
theorem gates_at (t : Fin cfg0.N) (n : Fin 8) (r : Fin 1024) (k : Fin 4) (d : Fin 2) (R : Fin 8192) (hR : R.val = 1024 * (t.val / 13) + r.val) :
    gates m c t (ix4 0 n r ⟨2 * k.val + d.val, by omega⟩)
      = gateArray (projected (argX m c) (argW m c) (argG m c)) (argA m c) (argDt m c) (argI m c) (argF m c)
          (ix4 ⟨R.val / 4096, by omega⟩ n ⟨R.val % 4096, by omega⟩ ⟨2 * k.val + d.val, by omega⟩) := by
  rw [gateArray_at, projected_at]
  refine (gateCols_at (iblk m c 0 t) (iblk m c 1 t) (iblk m c 3 t) (iblk m c 4 t) r ⟨8 * n.val + (2 * k.val + d.val), by omega⟩ k (kind_at n k d)).trans ?_
  have hz : (∑ l : Fin 2048, k0_pay3 (iblk m c 0 t) (iblk m c 1 t) (ix2 r l) * iblk m c 3 t (ix2 ⟨8 * n.val + (2 * k.val + d.val), by omega⟩ l)
        + iblk m c 4 t (ix2 1 ⟨8 * n.val + (2 * k.val + d.val), by omega⟩))
      = ∑ l : Fin 2048, normalised (fun l => argX m c (ix3 ⟨R.val / 4096, by omega⟩ ⟨R.val % 4096, by omega⟩ l)) (fun l => argG m c (ix2 0 l)) l
            * argW m c (ix3 0 l ⟨gateColumn k + (d.val * 8 + n.val), gateColumn_lt k d n⟩)
          + gateBias k (argDt m c (ix3 0 d n)) (argI m c (ix3 0 d n)) (argF m c (ix3 0 d n)) := by
    refine congrArg₂ (· + ·) (Finset.sum_congr rfl fun l _ => congrArg₂ (· * ·) (rows_at m c t r l R hR) ?_) ?_
    · exact (iblk3_at m c t _ l).trans (entry_gateWeights m c n k d l)
    · exact (iblk4_at m c t 1 _).trans (entry_gateBias m c n k d)
  rw [hz]
  by_cases hk : k = 1
  · subst hk
    exact congrArg (activation 1 _) ((iblk4_at m c t 0 _).trans (entry_gateRate m c n d))
  · unfold activation
    rw [if_neg hk, if_neg hk]

/-- The gates' array, when the launch ends, is the reference's. -/
theorem final6 : (dats m 0 c).arrAt 6 cfg0.N
    = gateArray (projected (argX m c) (argW m c) (argG m c)) (argA m c) (argDt m c) (argI m c) (argF m c) := by
  refine (dats m 0 c).arrAt_eq_of_covers 6 _ (by decide +kernel) fun t hf y => ?_
  blk_simp
  rw [after0_6]
  have ht := point_lt t
  obtain ⟨n, r, k, d, rfl⟩ : ∃ (n : Fin 8) (r : Fin 1024) (k : Fin 4) (d : Fin 2), y = ix4 0 n r ⟨2 * k.val + d.val, by omega⟩ := by
    have h3 : (y 3).val < 8 := (y 3).isLt
    refine ⟨y 1, y 2, ⟨(y 3).val / 2, by omega⟩, ⟨(y 3).val % 2, by omega⟩, ?_⟩
    funext a
    fin_cases a
    · exact Fin.ext (Nat.lt_one_iff.mp (y 0).isLt)
    · rfl
    · rfl
    · exact Fin.ext (Nat.div_add_mod (y 3).val 2).symm
  refine (gates_at m c t n r k d ⟨1024 * (t.val / 13) + r.val, by omega⟩ rfl).trans ?_
  refine congrArg (gateArray _ _ _ _ _) ?_
  blk_ext [index6]

end Cert.KernelIdeal.InProj

end
-- ==== Proof.RefForms2.lean ====
/- The output projection's reference, read entry by entry: the two branches' products, gated and summed, through the
   output weights onto the tokens, and normalised. -/
module

public import proofs.«01_k».proof.Proof.Gen.Reference2Ideal.Run
public import proofs.«01_k».proof.Proof.Scalars

@[expose] public section

set_option maxRecDepth 16384

noncomputable section

namespace Cert.Reference2Ideal.Forms

open Cert.Reference2Ideal Cert.Reference2Ideal.Gen Cert.Scalars
open Idealize.ShloMosaic Idealize.ShloMosaic.TcCoe Idealize.SL.Sem

/-- Both branches' gates: the logistic function of the projected columns, biased. -/
def gateSigmoid (pr : FVec Ideal S8192x13312 .bf16) (gb : FVec Ideal S1x4096 .f32) : FVec Ideal S2x4096x4096 .f32 :=
  Host.divf (broadcastInDim S2x4096x4096 ![] bcast_S_S2x4096x4096 (constant S_ .f32 0x3F800000#32)) (addf (broadcastInDim S2x4096x4096 ![] bcast_S_S2x4096x4096 (constant S_ .f32 0x3F800000#32)) (Host.exp (Host.negf (addf (shapeCast _ (extf .f32 (extractStridedSlice S8192x4096 ![0, 0] pr slices_S8192x13312_S8192x4096_0_0) bitsLt_bf16_f32) shapeCasts_S8192x4096_S2x4096x4096) (broadcastInDim S2x4096x4096 ![0, 1, 2] bcast_S1x1x4096_S2x4096x4096_0_1_2 (broadcastInDim S1x1x4096 ![2] bcast_S4096_S1x1x4096_2 (shapeCast _ gb shapeCasts_S1x4096_S4096)))))))

/-- The tokens after the layer: their old values and the gated branches through the output weights. -/
def hidden (X : FVec Ideal S2x4096x2048 .f32) (ya yb : FVec Ideal S8192x1024 .bf16) (pr : FVec Ideal S8192x13312 .bf16) (gb : FVec Ideal S1x4096 .f32)
    (wa wb : FVec Ideal S1x1024x2048 .f32) (wo : FVec Ideal S1x2048x2048 .f32) : FVec Ideal S2x4096x2048 .f32 :=
  addf X (Host.dotGeneral dot_S2x4096x2048_S2048x2048_S2x4096x2048_2_0_01_1_n_n none (addf (mulf (shapeCast _ (extractStridedSlice S2x4096x1x2048 ![0, 0, 0, 0] (shapeCast _ (gateSigmoid pr gb) shapeCasts_S2x4096x4096_S2x4096x2x2048) slices_S2x4096x2x2048_S2x4096x1x2048_0_0_0_0) shapeCasts_S2x4096x1x2048_S2x4096x2048) (Host.dotGeneral dot_S2x4096x1024_S1024x2048_S2x4096x2048_2_0_01_1_n_n none (shapeCast _ (extf .f32 ya bitsLt_bf16_f32) shapeCasts_S8192x1024_S2x4096x1024) (shapeCast _ wa shapeCasts_S1x1024x2048_S1024x2048))) (mulf (shapeCast _ (extractStridedSlice S2x4096x1x2048 ![0, 0, 1, 0] (shapeCast _ (gateSigmoid pr gb) shapeCasts_S2x4096x4096_S2x4096x2x2048) slices_S2x4096x2x2048_S2x4096x1x2048_0_0_1_0) shapeCasts_S2x4096x1x2048_S2x4096x2048) (Host.dotGeneral dot_S2x4096x1024_S1024x2048_S2x4096x2048_2_0_01_1_n_n none (shapeCast _ (extf .f32 yb bitsLt_bf16_f32) shapeCasts_S8192x1024_S2x4096x1024) (shapeCast _ wb shapeCasts_S1x1024x2048_S1024x2048)))) (shapeCast _ wo shapeCasts_S1x2048x2048_S2048x2048))

/-- The result: the tokens, normalised, a row a token. -/
def result (X : FVec Ideal S2x4096x2048 .f32) (ya yb : FVec Ideal S8192x1024 .bf16) (pr : FVec Ideal S8192x13312 .bf16) (gb : FVec Ideal S1x4096 .f32)
    (wa wb : FVec Ideal S1x1024x2048 .f32) (wo : FVec Ideal S1x2048x2048 .f32) (g : FVec Ideal S2048 .f32) : FVec Ideal S8192x2048 .f32 :=
  shapeCast _ (mulf (mulf (hidden X ya yb pr gb wa wb wo) (broadcastInDim S2x4096x2048 ![0, 1, 2] bcast_S2x4096x1_S2x4096x2048_0_1_2 (Host.rsqrt (addf (Host.divf (broadcastInDim S2x4096x1 ![0, 1] bcast_S2x4096_S2x4096x1_0_1 (Host.reduceAdd (mulf (hidden X ya yb pr gb wa wb wo) (hidden X ya yb pr gb wa wb wo)) (constant S_ .f32 0x00000000#32) reducesTo_S2x4096x2048_S2x4096_d2 h_S_)) (broadcastInDim S2x4096x1 ![] bcast_S_S2x4096x1 (constant S_ .f32 0x45000000#32))) (broadcastInDim S2x4096x1 ![] bcast_S_S2x4096x1 (constant S_ .f32 0x358637BD#32)))))) (broadcastInDim S2x4096x2048 ![0, 1, 2] bcast_S1x1x2048_S2x4096x2048_0_1_2 (broadcastInDim S1x1x2048 ![2] bcast_S2048_S1x1x2048_2 g))) shapeCasts_S2x4096x2048_S8192x2048

variable (m : (ℓ : Loc nD τ sig) → Buf (Elt Ideal) ℓ) (c : Dev nD)

/-- The reference's result is that term of its arguments. -/
theorem out0_eq : Value.res_out0 m c = result (m ((c.tc : Thread nD τ).loc main_arg3)) (m ((c.tc : Thread nD τ).loc main_arg0)) (m ((c.tc : Thread nD τ).loc main_arg1))
    (m ((c.tc : Thread nD τ).loc main_arg2)) (m ((c.tc : Thread nD τ).loc main_arg4)) (m ((c.tc : Thread nD τ).loc main_arg5)) (m ((c.tc : Thread nD τ).loc main_arg6))
    (m ((c.tc : Thread nD τ).loc main_arg7)) (m ((c.tc : Thread nD τ).loc main_arg8)) := rfl

/-- An entry of the gates. -/
theorem gateSigmoid_at (pr : FVec Ideal S8192x13312 .bf16) (gb : FVec Ideal S1x4096 .f32) (b : Fin 2) (t : Fin 4096) (o : Fin 4096) :
    gateSigmoid pr gb (ix3 b t o) = Ideal.logistic (pr (ix2 ⟨b.val * 4096 + t.val, by omega⟩ ⟨o.val, by omega⟩) + gb (ix2 0 o)) := by
  pointwise [gateSigmoid]
  rfl

/-- An entry of the tokens after the layer. -/
theorem hidden_at (X : FVec Ideal S2x4096x2048 .f32) (ya yb : FVec Ideal S8192x1024 .bf16) (pr : FVec Ideal S8192x13312 .bf16) (gb : FVec Ideal S1x4096 .f32)
    (wa wb : FVec Ideal S1x1024x2048 .f32) (wo : FVec Ideal S1x2048x2048 .f32) (b : Fin 2) (t : Fin 4096) (e : Fin 2048) (r : Fin 8192) (hr : r.val = b.val * 4096 + t.val) :
    hidden X ya yb pr gb wa wb wo (ix3 b t e) = tokenAfter (fun e => X (ix3 b t e)) (fun k => ya (ix2 r k)) (fun k => yb (ix2 r k))
      (fun d => pr (ix2 r ⟨d.val, by omega⟩) + gb (ix2 0 ⟨d.val, by omega⟩)) (fun d => pr (ix2 r ⟨2048 + d.val, by omega⟩) + gb (ix2 0 ⟨2048 + d.val, by omega⟩))
      (fun k d => wa (ix3 0 k d)) (fun k d => wb (ix3 0 k d)) (fun d e => wo (ix3 0 d e)) e := by
  obtain ⟨r, hlt⟩ := r
  obtain rfl : r = _ := hr
  pointwise [hidden, gateSigmoid_at, tokenAfter]

/-- An entry of the result. -/
theorem result_at (X : FVec Ideal S2x4096x2048 .f32) (ya yb : FVec Ideal S8192x1024 .bf16) (pr : FVec Ideal S8192x13312 .bf16) (gb : FVec Ideal S1x4096 .f32)
    (wa wb : FVec Ideal S1x1024x2048 .f32) (wo : FVec Ideal S1x2048x2048 .f32) (g : FVec Ideal S2048 .f32) (r : Fin 8192) (e : Fin 2048) :
    result X ya yb pr gb wa wb wo g (ix2 r e) = normalised (fun l => hidden X ya yb pr gb wa wb wo (ix3 ⟨r.val / 4096, by omega⟩ ⟨r.val % 4096, by omega⟩ l)) (fun l => g (ix1 l)) e := by
  pointwise [result, normalised]

end Cert.Reference2Ideal.Forms

end
-- ==== Proof.OutProjValue.lean ====
/- What the output projection computes, at the ideal values: row block by row block its result is the reference's. -/
module

public import proofs.«01_k».proof.Proof.Gen.Kernel2Ideal.Value
public import proofs.«01_k».proof.Proof.RefForms2
public import Idealize.ShloMosaic.Lib.Pipeline.ValueKit

@[expose] public section

set_option maxRecDepth 16384

noncomputable section

namespace Cert.Kernel2Ideal.OutProj

open Cert.Kernel2Ideal Cert.Kernel2Ideal.Gen Cert.Scalars
open Cert.Reference2Ideal.Forms (hidden result hidden_at result_at)
open Idealize.ShloMosaic Idealize.ShloMosaic.TcCoe Idealize.ShloMosaic.Tactic
open Idealize.SL.Sem

/-! ## The body's values -/

/-- An entry of the tokens' tile after the layer, before it is normalised. -/
theorem pay2_at (gb : Vec Ideal S1x4096 .f32) (ya : Vec Ideal S256x1024 .bf16) (wa : Vec Ideal S1024x2048 .f32) (yb : Vec Ideal S256x1024 .bf16) (wb : Vec Ideal S1024x2048 .f32)
    (pa pb : Vec Ideal S256x2048 .bf16) (x : Vec Ideal S256x2048 .f32) (wo : Vec Ideal S2048x2048 .f32) (r : Fin 256) (e : Fin 2048) :
    k0_pay2 gb ya wa yb wb pa pb x wo (ix2 r e) = tokenAfter (fun e => x (ix2 r e)) (fun k => ya (ix2 r k)) (fun k => yb (ix2 r k))
      (fun d => pa (ix2 r d) + gb (ix2 0 ⟨d.val, by omega⟩)) (fun d => pb (ix2 r d) + gb (ix2 0 ⟨2048 + d.val, by omega⟩))
      (fun k d => wa (ix2 k d)) (fun k d => wb (ix2 k d)) (fun d e => wo (ix2 d e)) e := by
  pointwise [k0_pay2, tokenAfter]

/-- An entry of the tile, normalised. -/
theorem pay1_at (gb : Vec Ideal S1x4096 .f32) (ya : Vec Ideal S256x1024 .bf16) (wa : Vec Ideal S1024x2048 .f32) (yb : Vec Ideal S256x1024 .bf16) (wb : Vec Ideal S1024x2048 .f32)
    (pa pb : Vec Ideal S256x2048 .bf16) (x : Vec Ideal S256x2048 .f32) (wo : Vec Ideal S2048x2048 .f32) (g : Vec Ideal S1x2048 .f32) (r : Fin 256) (e : Fin 2048) :
    k0_pay1 (k0_pay2 gb ya wa yb wb pa pb x wo) (k0_pay3 gb ya wa yb wb pa pb x wo) g (ix2 r e)
      = normalised (fun l => k0_pay2 gb ya wa yb wb pa pb x wo (ix2 r l)) (fun l => g (ix2 0 l)) e := by
  pointwise [k0_pay1, k0_pay3, normalised]

/-! ## The operands when the region is entered -/

variable (m : (ℓ : Loc nD τ sig) → Buf (Elt Ideal) ℓ) (c : Dev nD)

/-- The program's arguments on a core: the two branches' outputs, the projections, the tokens, the gates' biases, the
    branches' weights, the output weights, and the norm's weights. -/
abbrev argYa : FVec Ideal S8192x1024 .bf16 := m ((c.tc : Thread nD τ).loc main_arg0)
abbrev argYb : FVec Ideal S8192x1024 .bf16 := m ((c.tc : Thread nD τ).loc main_arg1)
abbrev argP : FVec Ideal S8192x13312 .bf16 := m ((c.tc : Thread nD τ).loc main_arg2)
abbrev argX : FVec Ideal S2x4096x2048 .f32 := m ((c.tc : Thread nD τ).loc main_arg3)
abbrev argB : FVec Ideal S1x4096 .f32 := m ((c.tc : Thread nD τ).loc main_arg4)
abbrev argWa : FVec Ideal S1x1024x2048 .f32 := m ((c.tc : Thread nD τ).loc main_arg5)
abbrev argWb : FVec Ideal S1x1024x2048 .f32 := m ((c.tc : Thread nD τ).loc main_arg6)
abbrev argWo : FVec Ideal S1x2048x2048 .f32 := m ((c.tc : Thread nD τ).loc main_arg7)
abbrev argG : FVec Ideal S2048 .f32 := m ((c.tc : Thread nD τ).loc main_arg8)

/-- The tokens, a row each. -/
theorem entry_tokens (r : Fin 8192) (l : Fin 2048) :
    V m c main_v0 (ix2 r l) = argX m c (ix3 ⟨r.val / 4096, by omega⟩ ⟨r.val % 4096, by omega⟩ l) := by
  entry_read
  pointwise
/-- The first branch's weights. -/
theorem entry_wa (k : Fin 1024) (d : Fin 2048) : V m c main_v1 (ix2 k d) = argWa m c (ix3 0 k d) := by
  entry_read
  pointwise
/-- The second branch's weights. -/
theorem entry_wb (k : Fin 1024) (d : Fin 2048) : V m c main_v2 (ix2 k d) = argWb m c (ix3 0 k d) := by
  entry_read
  pointwise
/-- The output weights. -/
theorem entry_wo (d e : Fin 2048) : V m c main_v3 (ix2 d e) = argWo m c (ix3 0 d e) := by
  entry_read
  pointwise
/-- The gates' biases. -/
theorem entry_bias (o : Fin 4096) : V m c main_v5 (ix2 0 o) = argB m c (ix2 0 o) := by
  entry_read
  pointwise
/-- The norm's weights. -/
theorem entry_norm (l : Fin 2048) : V m c main_v6 (ix2 0 l) = argG m c (ix1 l) := by
  entry_read
  pointwise

/-! ## The blocks -/

/-- The windows over the tokens go by row block; the second gate's window takes the second block of columns. -/
theorem index0 : ∀ t : Fin cfg0.N, win0_0.index t = ![t.val, 0] := (by decide +kernel : ∀ t : Fin grid0.N, win0_0.index t = ![t.val, 0])
theorem index1 : ∀ t : Fin cfg0.N, win0_1.index t = ![t.val, 0] := (by decide +kernel : ∀ t : Fin grid0.N, win0_1.index t = ![t.val, 0])
theorem index2 : ∀ t : Fin cfg0.N, win0_2.index t = ![t.val, 0] := (by decide +kernel : ∀ t : Fin grid0.N, win0_2.index t = ![t.val, 0])
theorem index3 : ∀ t : Fin cfg0.N, win0_3.index t = ![t.val, 1] := (by decide +kernel : ∀ t : Fin grid0.N, win0_3.index t = ![t.val, 1])
theorem index4 : ∀ t : Fin cfg0.N, win0_4.index t = ![t.val, 0] := (by decide +kernel : ∀ t : Fin grid0.N, win0_4.index t = ![t.val, 0])
theorem index5 : ∀ t : Fin cfg0.N, win0_5.index t = ![0, 0] := (by decide +kernel : ∀ t : Fin grid0.N, win0_5.index t = ![0, 0])
theorem index6 : ∀ t : Fin cfg0.N, win0_6.index t = ![0, 0] := (by decide +kernel : ∀ t : Fin grid0.N, win0_6.index t = ![0, 0])
theorem index7 : ∀ t : Fin cfg0.N, win0_7.index t = ![0, 0] := (by decide +kernel : ∀ t : Fin grid0.N, win0_7.index t = ![0, 0])
theorem index8 : ∀ t : Fin cfg0.N, win0_8.index t = ![0, 0] := (by decide +kernel : ∀ t : Fin grid0.N, win0_8.index t = ![0, 0])
theorem index9 : ∀ t : Fin cfg0.N, win0_9.index t = ![0, 0] := (by decide +kernel : ∀ t : Fin grid0.N, win0_9.index t = ![0, 0])
theorem index10 : ∀ t : Fin cfg0.N, win0_10.index t = ![t.val, 0] := (by decide +kernel : ∀ t : Fin grid0.N, win0_10.index t = ![t.val, 0])

/-- There are 32 points. -/
theorem point_lt (t : Fin cfg0.N) : t.val < 32 := t.isLt

/-- The first branch's rows. -/
theorem iblk0_at (t : Fin cfg0.N) (r : Fin 256) (l : Fin 1024) (R : Fin 8192) (hR : R.val = 256 * t.val + r.val) :
    iblk m c 0 t (ix2 r l) = argYa m c (ix2 R l) := by
  have ht := point_lt t
  obtain ⟨R, hlt⟩ := R
  obtain rfl : R = _ := hR
  unfold iblk
  refine (congrArg (V m c main_arg0) (?_ : ((cfg0.win 0).blk t).view.emb (ix2 r l) = ix2 ⟨256 * t.val + r.val, by omega⟩ l)).trans rfl
  blk_ext [index0]
/-- The second branch's rows. -/
theorem iblk1_at (t : Fin cfg0.N) (r : Fin 256) (l : Fin 1024) (R : Fin 8192) (hR : R.val = 256 * t.val + r.val) :
    iblk m c 1 t (ix2 r l) = argYb m c (ix2 R l) := by
  have ht := point_lt t
  obtain ⟨R, hlt⟩ := R
  obtain rfl : R = _ := hR
  unfold iblk
  refine (congrArg (V m c main_arg1) (?_ : ((cfg0.win 1).blk t).view.emb (ix2 r l) = ix2 ⟨256 * t.val + r.val, by omega⟩ l)).trans rfl
  blk_ext [index1]
/-- The tokens' rows. -/
theorem iblk4_at (t : Fin cfg0.N) (r : Fin 256) (l : Fin 2048) (R : Fin 8192) (hR : R.val = 256 * t.val + r.val) :
    iblk m c 4 t (ix2 r l) = argX m c (ix3 ⟨R.val / 4096, by omega⟩ ⟨R.val % 4096, by omega⟩ l) := by
  have ht := point_lt t
  obtain ⟨R, hlt⟩ := R
  obtain rfl : R = _ := hR
  unfold iblk
  refine (congrArg (V m c main_v0) (?_ : ((cfg0.win 4).blk t).view.emb (ix2 r l) = ix2 ⟨256 * t.val + r.val, by omega⟩ l)).trans (entry_tokens m c _ l)
  blk_ext [index4]
/-- The first branch's weights. -/
theorem iblk5_at (t : Fin cfg0.N) (k : Fin 1024) (d : Fin 2048) : iblk m c 5 t (ix2 k d) = argWa m c (ix3 0 k d) := by
  unfold iblk
  refine (congrArg (V m c main_v1) (?_ : ((cfg0.win 5).blk t).view.emb (ix2 k d) = ix2 k d)).trans (entry_wa m c k d)
  blk_ext [index5]
/-- The second branch's weights. -/
theorem iblk6_at (t : Fin cfg0.N) (k : Fin 1024) (d : Fin 2048) : iblk m c 6 t (ix2 k d) = argWb m c (ix3 0 k d) := by
  unfold iblk
  refine (congrArg (V m c main_v2) (?_ : ((cfg0.win 6).blk t).view.emb (ix2 k d) = ix2 k d)).trans (entry_wb m c k d)
  blk_ext [index6]
/-- The output weights. -/
theorem iblk7_at (t : Fin cfg0.N) (d e : Fin 2048) : iblk m c 7 t (ix2 d e) = argWo m c (ix3 0 d e) := by
  unfold iblk
  refine (congrArg (V m c main_v3) (?_ : ((cfg0.win 7).blk t).view.emb (ix2 d e) = ix2 d e)).trans (entry_wo m c d e)
  blk_ext [index7]
/-- The gates' biases. -/
theorem iblk8_at (t : Fin cfg0.N) (o : Fin 4096) : iblk m c 8 t (ix2 0 o) = argB m c (ix2 0 o) := by
  unfold iblk
  refine (congrArg (V m c main_v5) (?_ : ((cfg0.win 8).blk t).view.emb (ix2 0 o) = ix2 0 o)).trans (entry_bias m c o)
  blk_ext [index8]
/-- The norm's weights. -/
theorem iblk9_at (t : Fin cfg0.N) (l : Fin 2048) : iblk m c 9 t (ix2 0 l) = argG m c (ix1 l) := by
  unfold iblk
  refine (congrArg (V m c main_v6) (?_ : ((cfg0.win 9).blk t).view.emb (ix2 0 l) = ix2 0 l)).trans (entry_norm m c l)
  blk_ext [index9]
/-- The first gate's columns of the row block. -/
theorem X2_at (t : Fin cfg0.N) (r : Fin 256) (d : Fin 2048) (R : Fin 8192) (hR : R.val = 256 * t.val + r.val) :
    X0_2 m c t (ix2 r d) = argP m c (ix2 R ⟨d.val, by omega⟩) := by
  have ht := point_lt t
  obtain ⟨R, hlt⟩ := R
  obtain rfl : R = _ := hR
  unfold X0_2 Pipeline.Window.fill
  rw [dif_pos (moved0_2 t _)]
  unfold iblk
  refine congrArg (V m c main_arg2) (?_ : ((cfg0.win 2).blk t).view.emb _ = ix2 ⟨256 * t.val + r.val, by omega⟩ ⟨d.val, by omega⟩)
  blk_ext [index2]
/-- The second gate's columns of the row block. -/
theorem X3_at (t : Fin cfg0.N) (r : Fin 256) (d : Fin 2048) (R : Fin 8192) (hR : R.val = 256 * t.val + r.val) :
    X0_3 m c t (ix2 r d) = argP m c (ix2 R ⟨2048 + d.val, by omega⟩) := by
  have ht := point_lt t
  obtain ⟨R, hlt⟩ := R
  obtain rfl : R = _ := hR
  unfold X0_3 Pipeline.Window.fill
  rw [dif_pos (moved0_3 t _)]
  unfold iblk
  refine congrArg (V m c main_arg2) (?_ : ((cfg0.win 3).blk t).view.emb _ = ix2 ⟨256 * t.val + r.val, by omega⟩ ⟨2048 + d.val, by omega⟩)
  blk_ext [index3]

/-! ## The result -/

/-- Equal operands give equal entries. -/
theorem tokenAfter_congr {x x' : Fin 2048 → EReal} {ya ya' yb yb' : Fin 1024 → EReal} {za za' zb zb' : Fin 2048 → EReal} {wa wa' wb wb' : Fin 1024 → Fin 2048 → EReal}
    {wo wo' : Fin 2048 → Fin 2048 → EReal} (h0 : ∀ e, x e = x' e) (h1 : ∀ k, ya k = ya' k) (h2 : ∀ k, yb k = yb' k) (h3 : ∀ d, za d = za' d) (h4 : ∀ d, zb d = zb' d)
    (h5 : ∀ k d, wa k d = wa' k d) (h6 : ∀ k d, wb k d = wb' k d) (h7 : ∀ d e, wo d e = wo' d e) (e : Fin 2048) :
    tokenAfter x ya yb za zb wa wb wo e = tokenAfter x' ya' yb' za' zb' wa' wb' wo' e := by
  obtain rfl : x = x' := funext h0
  obtain rfl : ya = ya' := funext h1
  obtain rfl : yb = yb' := funext h2
  obtain rfl : za = za' := funext h3
  obtain rfl : zb = zb' := funext h4
  obtain rfl : wa = wa' := funext fun k => funext (h5 k)
  obtain rfl : wb = wb' := funext fun k => funext (h6 k)
  obtain rfl : wo = wo' := funext fun d => funext (h7 d)
  rfl

/-- A point's tile is the reference's rows. -/
theorem tile_at (t : Fin cfg0.N) (r : Fin 256) (e : Fin 2048) (R : Fin 8192) (hR : R.val = 256 * t.val + r.val) :
    k0_pay1 (k0_pay2 (iblk m c 8 t) (iblk m c 0 t) (iblk m c 5 t) (iblk m c 1 t) (iblk m c 6 t) (X0_2 m c t) (X0_3 m c t) (iblk m c 4 t) (iblk m c 7 t))
        (k0_pay3 (iblk m c 8 t) (iblk m c 0 t) (iblk m c 5 t) (iblk m c 1 t) (iblk m c 6 t) (X0_2 m c t) (X0_3 m c t) (iblk m c 4 t) (iblk m c 7 t)) (iblk m c 9 t) (ix2 r e)
      = result (argX m c) (argYa m c) (argYb m c) (argP m c) (argB m c) (argWa m c) (argWb m c) (argWo m c) (argG m c) (ix2 R e) := by
  rw [pay1_at, result_at]
  refine congrArg₂ (fun f g => normalised f g e) (funext fun l => ?_) (funext fun l => ?_)
  · have hm : R.val = R.val / 4096 * 4096 + R.val % 4096 := by omega
    refine (pay2_at _ _ _ _ _ _ _ _ _ r l).trans ((?_ : _ = _).trans (hidden_at (argX m c) (argYa m c) (argYb m c) (argP m c) (argB m c) (argWa m c) (argWb m c) (argWo m c)
      ⟨R.val / 4096, by omega⟩ ⟨R.val % 4096, by omega⟩ l R hm).symm)
    exact tokenAfter_congr (fun e => iblk4_at m c t r e R hR) (fun k => iblk0_at m c t r k R hR) (fun k => iblk1_at m c t r k R hR)
      (fun d => congrArg₂ (fun a b : EReal => a + b) (X2_at m c t r d R hR) (iblk8_at m c t _)) (fun d => congrArg₂ (fun a b : EReal => a + b) (X3_at m c t r d R hR) (iblk8_at m c t _))
      (fun k d => iblk5_at m c t k d) (fun k d => iblk6_at m c t k d) (fun d e => iblk7_at m c t d e) l
  · exact iblk9_at m c t l

/-- The result's array, when the launch ends, is the reference's. -/
theorem final : (dats m 0 c).arrAt 10 cfg0.N
    = result (argX m c) (argYa m c) (argYb m c) (argP m c) (argB m c) (argWa m c) (argWb m c) (argWo m c) (argG m c) := by
  refine (dats m 0 c).arrAt_eq_of_covers 10 _ (by decide +kernel) fun t hf y => ?_
  blk_simp
  rw [after0_10]
  have ht := point_lt t
  obtain ⟨r, e, rfl⟩ : ∃ (r : Fin 256) (e : Fin 2048), y = ix2 r e := ⟨y 0, y 1, by funext a; fin_cases a <;> rfl⟩
  unfold outsAt0
  frame_out
  refine (tile_at m c t r e ⟨256 * t.val + r.val, by omega⟩ rfl).trans ?_
  refine congrArg (result _ _ _ _ _ _ _ _ _) ?_
  blk_ext [index10]

end Cert.Kernel2Ideal.OutProj

end
-- ==== Proof.lean ====
/- The certificate of the layer's input projection and output projection: `claim` assembles the claims of Defs.lean
   from the generated frames and from the hand-written modules beside this file. -/
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Points
public import proofs.«01_k».proof.Proof.Gen.Kernel.Frame
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Points
public import proofs.«01_k».proof.Proof.Gen.KernelIdeal.Frame
public import proofs.«01_k».proof.Proof.Gen.ReferenceIdeal
public import proofs.«01_k».proof.Proof.Gen.Kernel2
public import proofs.«01_k».proof.Proof.Gen.Kernel2.Skeleton
public import proofs.«01_k».proof.Proof.Gen.Kernel2.Launch
public import proofs.«01_k».proof.Proof.Gen.Kernel2.Points
public import proofs.«01_k».proof.Proof.Gen.Kernel2.Frame
public import proofs.«01_k».proof.Proof.Gen.Kernel2Ideal
public import proofs.«01_k».proof.Proof.Gen.Kernel2Ideal.Skeleton
public import proofs.«01_k».proof.Proof.Gen.Kernel2Ideal.Launch
public import proofs.«01_k».proof.Proof.Gen.Kernel2Ideal.Points
public import proofs.«01_k».proof.Proof.Gen.Kernel2Ideal.Frame
public import proofs.«01_k».proof.Proof.Gen.Reference2Ideal
public import proofs.«01_k».proof.Proof.Gen.ReferenceIdeal.Run
public import proofs.«01_k».proof.Proof.Gen.Reference2Ideal.Run
public import proofs.«01_k».proof.Proof.Gen.Kernel2Ideal.Value
public import proofs.«01_k».proof.Proof.SameText
public import proofs.«01_k».proof.Proof.InProjValue
public import proofs.«01_k».proof.Proof.OutProjValue
public import Idealize.ShloMosaic.Adequacy
public import Idealize.ShloMosaic.Init

@[expose] public section

noncomputable section

namespace Cert.Proof

open Idealize.ShloMosaic Idealize.SL.Sem Cert.Kernel

/-- The input projection's reference runs, leaves its arguments unchanged, and has no semaphore. -/
theorem frame_reference : Cert.quiescent_ReferenceIdeal := fun m ρ _ =>
  (θ_run Cert.ReferenceIdeal.defs _ _).mono (fun r h => ⟨fun c => (h c).2.2, sem_eq_zero_of_no_sems (by decide) r.2⟩)
    (Cert.ReferenceIdeal.Value.run (F := Ideal) m ρ)

/-- The output projection's reference runs, leaves its arguments unchanged, and has no semaphore. -/
theorem frame_reference2 : Cert.quiescent_Reference2Ideal := fun m ρ _ =>
  (θ_run Cert.Reference2Ideal.defs _ _).mono (fun r h => ⟨fun c => (h c).2, sem_eq_zero_of_no_sems (by decide) r.2⟩)
    (Cert.Reference2Ideal.Value.run (F := Ideal) m ρ)

/-- Over exact values the input projection's two results are its reference's: from equal arguments both programs end,
    the projections' array and the gates' array the same in both, every argument as it began. -/
theorem inProj_value : Cert.algebraic_KernelIdeal_ReferenceIdeal := by
  pair_intro
  · run_from Cert.KernelIdeal.InProj.run_main m g
    · exact Cert.KernelIdeal.Gen.V_main_arg0 m c
    · exact Cert.KernelIdeal.Gen.V_main_arg1 m c
    · exact Cert.KernelIdeal.Gen.V_main_arg2 m c
    · exact Cert.KernelIdeal.Gen.V_main_arg3 m c
    · exact Cert.KernelIdeal.Gen.V_main_arg4 m c
    · exact Cert.KernelIdeal.Gen.V_main_arg5 m c
    · exact Cert.KernelIdeal.Gen.V_main_arg6 m c
  · run_from Cert.ReferenceIdeal.Value.run m' g'
    · obtain ⟨h0, h1, -, -, -, -, h6⟩ := hagree c
      refine (Cert.ReferenceIdeal.Forms.out0_eq m' c).trans ?_
      rw [h0, h1, h6]
      exact (Cert.KernelIdeal.InProj.final5 m c).symm
    · obtain ⟨h0, h1, h2, h3, h4, h5, h6⟩ := hagree c
      refine (Cert.ReferenceIdeal.Forms.out1_eq m' c).trans ?_
      rw [h0, h1, h2, h3, h4, h5, h6]
      exact (Cert.KernelIdeal.InProj.final6 m c).symm

/-- Over exact values the output projection's result is its reference's: from equal arguments both programs end,
    the result's array the same in both, every argument as it began. -/
theorem outProj_value : Cert.algebraic_Kernel2Ideal_Reference2Ideal := by
  pair_intro
  · run_from Cert.Kernel2Ideal.Gen.run_main m g
  · run_from Cert.Reference2Ideal.Value.run m' g'
    obtain ⟨h0, h1, h2, h3, h4, h5, h6, h7, h8⟩ := hagree c
    refine (Cert.Reference2Ideal.Forms.out0_eq m' c).trans ?_
    rw [h0, h1, h2, h3, h4, h5, h6, h7, h8]
    exact (Cert.Kernel2Ideal.OutProj.final m c).symm

/-- The whole certificate. -/
theorem claim : Cert.Claim := ⟨Cert.Kernel.Gen.facts, Cert.KernelIdeal.Gen.facts, Cert.ReferenceIdeal.Gen.facts, Cert.Kernel2.Gen.facts, Cert.Kernel2Ideal.Gen.facts, Cert.Reference2Ideal.Gen.facts,
  frame_kernel, fun m ρ _ => Cert.KernelIdeal.InProj.frame m ρ, frame_reference,
  fun m ρ _ => Cert.Kernel2.Gen.frame m ρ, fun m ρ _ => Cert.Kernel2Ideal.Gen.frame m ρ, frame_reference2,
  trivial, inProj_value, trivial, outProj_value⟩

end Cert.Proof

end
